-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v66_0)) (v1 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66_0) = v0 c
          ∧ r.2.mem ((c.tc : Thread Cert.KernelIdeal.nD Cert.KernelIdeal.τ).loc Cert.KernelIdeal.main_v67) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v234) = v0 c
          ∧ r.2.mem ((c.tc : Thread Cert.ReferenceIdeal.nD Cert.ReferenceIdeal.τ).loc Cert.ReferenceIdeal.main_v238) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8x16x1x32x32x256 : Shape := ⟨6, ![8, 16, 1, 32, 32, 256]⟩
abbrev S256x256x2x2 : Shape := ⟨4, ![256, 256, 2, 2]⟩
abbrev S256 : Shape := ⟨1, ![256]⟩
abbrev S256x256 : Shape := ⟨2, ![256, 256]⟩
abbrev S8x6 : Shape := ⟨2, ![8, 6]⟩
abbrev S_ : Shape := ⟨0, ![]⟩

class Facts : Prop where
  bcast_S_S8x16x1x32x32x256 : S_.BroadcastsInDim S8x16x1x32x32x256 (![] : Fin 0 → Fin S8x16x1x32x32x256.rank)
  reducesTo_S8x16x1x32x32x256_S_d0_1_2_3_4_5 : S8x16x1x32x32x256.ReducesTo [0, 1, 2, 3, 4, 5] S_
  h_S_ : 0 < S_.numel
  bcast_S_S256x256x2x2 : S_.BroadcastsInDim S256x256x2x2 (![] : Fin 0 → Fin S256x256x2x2.rank)
  reducesTo_S256x256x2x2_S_d0_1_2_3 : S256x256x2x2.ReducesTo [0, 1, 2, 3] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S8x6 : S_.BroadcastsInDim S8x6 (![] : Fin 0 → Fin S8x6.rank)
  reducesTo_S8x6_S_d0_1 : S8x6.ReducesTo [0, 1] S_

variable [Facts]

def fn_part6 {F : FTy → Type} [FloatOps F] (main_arg21 : FVec F S256x256 .f32) (main_arg22 : FVec F S256 .f32) (main_arg23 : FVec F S8x6 .f32) (main_v98 : IVec S_ 1) (main_v101 : IVec S256 1) (main_c_39 : IVec S_ 1) : IVec S_ 1 :=
  let main_v102 : IVec S_ 1 := (fun x v => Host.reduce IntOp.andi x v reducesTo_S256_S_d0 h_S_) main_v101 main_c_39
  let main_v103 : IVec S_ 1 := andi main_v98 main_v102
  let main_v104 : FVec F S256x256 .f32 := Host.absf main_arg21
  let main_cst_40 : FVec F S_ .f32 := constant S_ .f32 0x7F800000#32
  let main_v105 : FVec F S256x256 .f32 := broadcastInDim S256x256 ![] bcast_S_S256x256 main_cst_40
  let main_v106 : IVec S256x256 1 := cmpf .olt main_v104 main_v105
  let main_c_41 : IVec S_ 1 := constantI S_ 1 1#1
  let main_v107 : IVec S_ 1 := (fun x v => Host.reduce IntOp.andi x v reducesTo_S256x256_S_d0_1 h_S_) main_v106 main_c_41
  let main_v108 : IVec S_ 1 := andi main_v103 main_v107
  let main_v109 : FVec F S256 .f32 := Host.absf main_arg22
  let main_cst_42 : FVec F S_ .f32 := constant S_ .f32 0x7F800000#32
  let main_v110 : FVec F S256 .f32 := broadcastInDim S256 ![] bcast_S_S256 main_cst_42
  let main_v111 : IVec S256 1 := cmpf .olt main_v109 main_v110
  let main_c_43 : IVec S_ 1 := constantI S_ 1 1#1
  let main_v112 : IVec S_ 1 := (fun x v => Host.reduce IntOp.andi x v reducesTo_S256_S_d0 h_S_) main_v111 main_c_43
  let main_v113 : IVec S_ 1 := andi main_v108 main_v112
  let main_v114 : FVec F S8x6 .f32 := Host.absf main_arg23
  let main_cst_44 : FVec F S_ .f32 := constant S_ .f32 0x7F800000#32
  let main_v115 : FVec F S8x6 .f32 := broadcastInDim S8x6 ![] bcast_S_S8x6 main_cst_44
  let main_v116 : IVec S8x6 1 := cmpf .olt main_v114 main_v115
  let main_c_45 : IVec S_ 1 := constantI S_ 1 1#1
  let main_v117 : IVec S_ 1 := (fun x v => Host.reduce IntOp.andi x v reducesTo_S8x6_S_d0_1 h_S_) main_v116 main_c_45
  let main_v118 : IVec S_ 1 := andi main_v113 main_v117
  main_v118

def fn_part5 {F : FTy → Type} [FloatOps F] (main_arg18 : FVec F S256 .f32) (main_arg19 : FVec F S256 .f32) (main_arg20 : FVec F S256 .f32) (main_arg21 : FVec F S256x256 .f32) (main_arg22 : FVec F S256 .f32) (main_arg23 : FVec F S8x6 .f32) (main_v83 : IVec S_ 1) (main_v84 : FVec F S256x256x2x2 .f32) (main_cst_32 : FVec F S_ .f32) : IVec S_ 1 :=
  let main_v85 : FVec F S256x256x2x2 .f32 := broadcastInDim S256x256x2x2 ![] bcast_S_S256x256x2x2 main_cst_32
  let main_v86 : IVec S256x256x2x2 1 := cmpf .olt main_v84 main_v85
  let main_c_33 : IVec S_ 1 := constantI S_ 1 1#1
  let main_v87 : IVec S_ 1 := (fun x v => Host.reduce IntOp.andi x v reducesTo_S256x256x2x2_S_d0_1_2_3 h_S_) main_v86 main_c_33
  let main_v88 : IVec S_ 1 := andi main_v83 main_v87
  let main_v89 : FVec F S256 .f32 := Host.absf main_arg18
  let main_cst_34 : FVec F S_ .f32 := constant S_ .f32 0x7F800000#32
  let main_v90 : FVec F S256 .f32 := broadcastInDim S256 ![] bcast_S_S256 main_cst_34
  let main_v91 : IVec S256 1 := cmpf .olt main_v89 main_v90
  let main_c_35 : IVec S_ 1 := constantI S_ 1 1#1
  let main_v92 : IVec S_ 1 := (fun x v => Host.reduce IntOp.andi x v reducesTo_S256_S_d0 h_S_) main_v91 main_c_35
  let main_v93 : IVec S_ 1 := andi main_v88 main_v92
  let main_v94 : FVec F S256 .f32 := Host.absf main_arg19
  let main_cst_36 : FVec F S_ .f32 := constant S_ .f32 0x7F800000#32
  let main_v95 : FVec F S256 .f32 := broadcastInDim S256 ![] bcast_S_S256 main_cst_36
  let main_v96 : IVec S256 1 := cmpf .olt main_v94 main_v95
  let main_c_37 : IVec S_ 1 := constantI S_ 1 1#1
  let main_v97 : IVec S_ 1 := (fun x v => Host.reduce IntOp.andi x v reducesTo_S256_S_d0 h_S_) main_v96 main_c_37
  let main_v98 : IVec S_ 1 := andi main_v93 main_v97
  let main_v99 : FVec F S256 .f32 := Host.absf main_arg20
  let main_cst_38 : FVec F S_ .f32 := constant S_ .f32 0x7F800000#32
  let main_v100 : FVec F S256 .f32 := broadcastInDim S256 ![] bcast_S_S256 main_cst_38
  let main_v101 : IVec S256 1 := cmpf .olt main_v99 main_v100
  let main_c_39 : IVec S_ 1 := constantI S_ 1 1#1
  fn_part6 (F := F) main_arg21 main_arg22 main_arg23 main_v98 main_v101 main_c_39

def fn_part4 {F : FTy → Type} [FloatOps F] (main_arg14 : FVec F S256 .f32) (main_arg15 : FVec F S256 .f32) (main_arg16 : FVec F S256 .f32) (main_arg17 : FVec F S256x256x2x2 .f32) (main_arg18 : FVec F S256 .f32) (main_arg19 : FVec F S256 .f32) (main_arg20 : FVec F S256 .f32) (main_arg21 : FVec F S256x256 .f32) (main_arg22 : FVec F S256 .f32) (main_arg23 : FVec F S8x6 .f32) (main_v63 : IVec S_ 1) (main_v67 : IVec S_ 1) : IVec S_ 1 :=
  let main_v68 : IVec S_ 1 := andi main_v63 main_v67
  let main_v69 : FVec F S256 .f32 := Host.absf main_arg14
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S256 .f32 := Host.absf main_arg15
  let main_cst_28 : FVec F S_ .f32 := constant S_ .f32 0x7F800000#32
  let main_v75 : FVec F S256 .f32 := broadcastInDim S256 ![] bcast_S_S256 main_cst_28
  let main_v76 : IVec S256 1 := cmpf .olt main_v74 main_v75
  let main_c_29 : IVec S_ 1 := constantI S_ 1 1#1
  let main_v77 : IVec S_ 1 := (fun x v => Host.reduce IntOp.andi x v reducesTo_S256_S_d0 h_S_) main_v76 main_c_29
  let main_v78 : IVec S_ 1 := andi main_v73 main_v77
  let main_v79 : FVec F S256 .f32 := Host.absf main_arg16
  let main_cst_30 : FVec F S_ .f32 := constant S_ .f32 0x7F800000#32
  let main_v80 : FVec F S256 .f32 := broadcastInDim S256 ![] bcast_S_S256 main_cst_30
  let main_v81 : IVec S256 1 := cmpf .olt main_v79 main_v80
  let main_c_31 : IVec S_ 1 := constantI S_ 1 1#1
  let main_v82 : IVec S_ 1 := (fun x v => Host.reduce IntOp.andi x v reducesTo_S256_S_d0 h_S_) main_v81 main_c_31
  let main_v83 : IVec S_ 1 := andi main_v78 main_v82
  let main_v84 : FVec F S256x256x2x2 .f32 := Host.absf main_arg17
  let main_cst_32 : FVec F S_ .f32 := constant S_ .f32 0x7F800000#32
  fn_part5 (F := F) main_arg18 main_arg19 main_arg20 main_arg21 main_arg22 main_arg23 main_v83 main_v84 main_cst_32

def fn_part3 {F : FTy → Type} [FloatOps F] (main_arg11 : FVec F S256 .f32) (main_arg12 : FVec F S256 .f32) (main_arg13 : FVec F S256x256x2x2 .f32) (main_arg14 : FVec F S256 .f32) (main_arg15 : FVec F S256 .f32) (main_arg16 : FVec F S256 .f32) (main_arg17 : FVec F S256x256x2x2 .f32) (main_arg18 : FVec F S256 .f32) (main_arg19 : FVec F S256 .f32) (main_arg20 : FVec F S256 .f32) (main_arg21 : FVec F S256x256 .f32) (main_arg22 : FVec F S256 .f32) (main_arg23 : FVec F S8x6 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256 .f32 := Host.absf main_arg11
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256 .f32 := Host.absf main_arg12
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256x256x2x2 .f32 := Host.absf main_arg13
  let main_cst_24 : FVec F S_ .f32 := constant S_ .f32 0x7F800000#32
  let main_v65 : FVec F S256x256x2x2 .f32 := broadcastInDim S256x256x2x2 ![] bcast_S_S256x256x2x2 main_cst_24
  let main_v66 : IVec S256x256x2x2 1 := cmpf .olt main_v64 main_v65
  let main_c_25 : IVec S_ 1 := constantI S_ 1 1#1
  let main_v67 : IVec S_ 1 := (fun x v => Host.reduce IntOp.andi x v reducesTo_S256x256x2x2_S_d0_1_2_3 h_S_) main_v66 main_c_25
  fn_part4 (F := F) main_arg14 main_arg15 main_arg16 main_arg17 main_arg18 main_arg19 main_arg20 main_arg21 main_arg22 main_arg23 main_v63 main_v67

def fn_part2 {F : FTy → Type} [FloatOps F] (main_arg7 : FVec F S256 .f32) (main_arg8 : FVec F S256 .f32) (main_arg9 : FVec F S256x256x2x2 .f32) (main_arg10 : FVec F S256 .f32) (main_arg11 : FVec F S256 .f32) (main_arg12 : FVec F S256 .f32) (main_arg13 : FVec F S256x256x2x2 .f32) (main_arg14 : FVec F S256 .f32) (main_arg15 : FVec F S256 .f32) (main_arg16 : FVec F S256 .f32) (main_arg17 : FVec F S256x256x2x2 .f32) (main_arg18 : FVec F S256 .f32) (main_arg19 : FVec F S256 .f32) (main_arg20 : FVec F S256 .f32) (main_arg21 : FVec F S256x256 .f32) (main_arg22 : FVec F S256 .f32) (main_arg23 : FVec F S8x6 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x256x2x2 .f32 := Host.absf main_arg9
  let main_cst_16 : FVec F S_ .f32 := constant S_ .f32 0x7F800000#32
  let main_v45 : FVec F S256x256x2x2 .f32 := broadcastInDim S256x256x2x2 ![] bcast_S_S256x256x2x2 main_cst_16
  let main_v46 : IVec S256x256x2x2 1 := cmpf .olt main_v44 main_v45
  let main_c_17 : IVec S_ 1 := constantI S_ 1 1#1
  let main_v47 : IVec S_ 1 := (fun x v => Host.reduce IntOp.andi x v reducesTo_S256x256x2x2_S_d0_1_2_3 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_arg11 main_arg12 main_arg13 main_arg14 main_arg15 main_arg16 main_arg17 main_arg18 main_arg19 main_arg20 main_arg21 main_arg22 main_arg23 main_v48 main_v49 main_v50

def fn_part1 {F : FTy → Type} [FloatOps F] (main_arg4 : FVec F S256 .f32) (main_arg5 : FVec F S256x256x2x2 .f32) (main_arg6 : FVec F S256 .f32) (main_arg7 : FVec F S256 .f32) (main_arg8 : FVec F S256 .f32) (main_arg9 : FVec F S256x256x2x2 .f32) (main_arg10 : FVec F S256 .f32) (main_arg11 : FVec F S256 .f32) (main_arg12 : FVec F S256 .f32) (main_arg13 : FVec F S256x256x2x2 .f32) (main_arg14 : FVec F S256 .f32) (main_arg15 : FVec F S256 .f32) (main_arg16 : FVec F S256 .f32) (main_arg17 : FVec F S256x256x2x2 .f32) (main_arg18 : FVec F S256 .f32) (main_arg19 : FVec F S256 .f32) (main_arg20 : FVec F S256 .f32) (main_arg21 : FVec F S256x256 .f32) (main_arg22 : FVec F S256 .f32) (main_arg23 : FVec F S8x6 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256x2x2 .f32 := Host.absf main_arg5
  let main_cst_8 : FVec F S_ .f32 := constant S_ .f32 0x7F800000#32
  let main_v25 : FVec F S256x256x2x2 .f32 := broadcastInDim S256x256x2x2 ![] bcast_S_S256x256x2x2 main_cst_8
  let main_v26 : IVec S256x256x2x2 1 := cmpf .olt main_v24 main_v25
  let main_c_9 : IVec S_ 1 := constantI S_ 1 1#1
  let main_v27 : IVec S_ 1 := (fun x v => Host.reduce IntOp.andi x v reducesTo_S256x256x2x2_S_d0_1_2_3 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_v33

def fn {F : FTy → Type} [FloatOps F] (main_arg0 : FVec F S8x16x1x32x32x256 .f32) (main_arg1 : FVec F S256x256x2x2 .f32) (main_arg2 : FVec F S256 .f32) (main_arg3 : FVec F S256 .f32) (main_arg4 : FVec F S256 .f32) (main_arg5 : FVec F S256x256x2x2 .f32) (main_arg6 : FVec F S256 .f32) (main_arg7 : FVec F S256 .f32) (main_arg8 : FVec F S256 .f32) (main_arg9 : FVec F S256x256x2x2 .f32) (main_arg10 : FVec F S256 .f32) (main_arg11 : FVec F S256 .f32) (main_arg12 : FVec F S256 .f32) (main_arg13 : FVec F S256x256x2x2 .f32) (main_arg14 : FVec F S256 .f32) (main_arg15 : FVec F S256 .f32) (main_arg16 : FVec F S256 .f32) (main_arg17 : FVec F S256x256x2x2 .f32) (main_arg18 : FVec F S256 .f32) (main_arg19 : FVec F S256 .f32) (main_arg20 : FVec F S256 .f32) (main_arg21 : FVec F S256x256 .f32) (main_arg22 : FVec F S256 .f32) (main_arg23 : FVec F S8x6 .f32) (main_arg24 : IVec S_ 32) : IVec S_ 1 :=
  let main_v0 : FVec F S8x16x1x32x32x256 .f32 := Host.absf main_arg0
  let main_cst : FVec F S_ .f32 := constant S_ .f32 0x7F800000#32
  let main_v1 : FVec F S8x16x1x32x32x256 .f32 := broadcastInDim S8x16x1x32x32x256 ![] bcast_S_S8x16x1x32x32x256 main_cst
  let main_v2 : IVec S8x16x1x32x32x256 1 := cmpf .olt main_v0 main_v1
  let main_c : IVec S_ 1 := constantI S_ 1 1#1
  let main_v3 : IVec S_ 1 := (fun x v => Host.reduce IntOp.andi x v reducesTo_S8x16x1x32x32x256_S_d0_1_2_3_4_5 h_S_) main_v2 main_c
  let main_v4 : FVec F S256x256x2x2 .f32 := Host.absf main_arg1
  let main_cst_0 : FVec F S_ .f32 := constant S_ .f32 0x7F800000#32
  let main_v5 : FVec F S256x256x2x2 .f32 := broadcastInDim S256x256x2x2 ![] bcast_S_S256x256x2x2 main_cst_0
  let main_v6 : IVec S256x256x2x2 1 := cmpf .olt main_v4 main_v5
  let main_c_1 : IVec S_ 1 := constantI S_ 1 1#1
  let main_v7 : IVec S_ 1 := (fun x v => Host.reduce IntOp.andi x v reducesTo_S256x256x2x2_S_d0_1_2_3 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_v13 main_v16
-- ==== Kernel.lean ====
abbrev S8x16x1x32x32x256 : Shape := ⟨6, ![8, 16, 1, 32, 32, 256]⟩
abbrev S256x256x2x2 : Shape := ⟨4, ![256, 256, 2, 2]⟩
abbrev S256 : Shape := ⟨1, ![256]⟩
abbrev S256x256 : Shape := ⟨2, ![256, 256]⟩
abbrev S8x6 : Shape := ⟨2, ![8, 6]⟩
abbrev S_ : Shape := ⟨0, ![]⟩
abbrev S16x8 : Shape := ⟨2, ![16, 8]⟩
abbrev S128x32x32x256 : Shape := ⟨4, ![128, 32, 32, 256]⟩
abbrev S2x2x256x256 : Shape := ⟨4, ![2, 2, 256, 256]⟩
abbrev S1024x256 : Shape := ⟨2, ![1024, 256]⟩
abbrev S1x256 : Shape := ⟨2, ![1, 256]⟩
abbrev S5x256 : Shape := ⟨2, ![5, 256]⟩
abbrev S5x1x256 : Shape := ⟨3, ![5, 1, 256]⟩
abbrev S128x256 : Shape := ⟨2, ![128, 256]⟩
abbrev S16x32x32x256 : Shape := ⟨4, ![16, 32, 32, 256]⟩
abbrev S16x256 : Shape := ⟨2, ![16, 256]⟩
abbrev S16x32x16x512 : Shape := ⟨4, ![16, 32, 16, 512]⟩
abbrev S16x16x2x16x512 : Shape := ⟨5, ![16, 16, 2, 16, 512]⟩
abbrev S16x16x1x16x512 : Shape := ⟨5, ![16, 16, 1, 16, 512]⟩
abbrev S16x16x16x512 : Shape := ⟨4, ![16, 16, 16, 512]⟩
abbrev S4096x512 : Shape := ⟨2, ![4096, 512]⟩
abbrev S4096x1024 : Shape := ⟨2, ![4096, 1024]⟩
abbrev S4096x256 : Shape := ⟨2, ![4096, 256]⟩
abbrev S1x1x256 : Shape := ⟨3, ![1, 1, 256]⟩
abbrev S16x16x16x256 : Shape := ⟨4, ![16, 16, 16, 256]⟩
abbrev S16x16x8x512 : Shape := ⟨4, ![16, 16, 8, 512]⟩
abbrev S16x8x2x8x512 : Shape := ⟨5, ![16, 8, 2, 8, 512]⟩
abbrev S16x8x1x8x512 : Shape := ⟨5, ![16, 8, 1, 8, 512]⟩
abbrev S16x8x8x512 : Shape := ⟨4, ![16, 8, 8, 512]⟩
abbrev S1024x512 : Shape := ⟨2, ![1024, 512]⟩
abbrev S1024x1024 : Shape := ⟨2, ![1024, 1024]⟩
abbrev S16x8x8x256 : Shape := ⟨4, ![16, 8, 8, 256]⟩
abbrev S16x8x4x512 : Shape := ⟨4, ![16, 8, 4, 512]⟩
abbrev S16x4x2x4x512 : Shape := ⟨5, ![16, 4, 2, 4, 512]⟩
abbrev S16x4x1x4x512 : Shape := ⟨5, ![16, 4, 1, 4, 512]⟩
abbrev S16x4x4x512 : Shape := ⟨4, ![16, 4, 4, 512]⟩
abbrev S256x512 : Shape := ⟨2, ![256, 512]⟩
abbrev S256x1024 : Shape := ⟨2, ![256, 1024]⟩
abbrev S16x4x4x256 : Shape := ⟨4, ![16, 4, 4, 256]⟩
abbrev S16x4x2x512 : Shape := ⟨4, ![16, 4, 2, 512]⟩
abbrev S16x2x2x2x512 : Shape := ⟨5, ![16, 2, 2, 2, 512]⟩
abbrev S16x2x1x2x512 : Shape := ⟨5, ![16, 2, 1, 2, 512]⟩
abbrev S16x2x2x512 : Shape := ⟨4, ![16, 2, 2, 512]⟩
abbrev S64x512 : Shape := ⟨2, ![64, 512]⟩
abbrev S64x1024 : Shape := ⟨2, ![64, 1024]⟩
abbrev S64x256 : Shape := ⟨2, ![64, 256]⟩
abbrev S16x2x2x256 : Shape := ⟨4, ![16, 2, 2, 256]⟩
abbrev S16x2x1x512 : Shape := ⟨4, ![16, 2, 1, 512]⟩
abbrev S16x1x2x1x512 : Shape := ⟨5, ![16, 1, 2, 1, 512]⟩
abbrev S16x1x1x1x512 : Shape := ⟨5, ![16, 1, 1, 1, 512]⟩
abbrev S16x1x1x512 : Shape := ⟨4, ![16, 1, 1, 512]⟩
abbrev S16x512 : Shape := ⟨2, ![16, 512]⟩
abbrev S16x1024 : Shape := ⟨2, ![16, 1024]⟩
abbrev S16x1x1x256 : Shape := ⟨4, ![16, 1, 1, 256]⟩
abbrev S8x16x256 : Shape := ⟨3, ![8, 16, 256]⟩
abbrev S1x6 : Shape := ⟨2, ![1, 6]⟩
abbrev S1x16x256 : Shape := ⟨3, ![1, 16, 256]⟩
abbrev S8x256 : Shape := ⟨2, ![8, 256]⟩
abbrev S8 : Shape := ⟨1, ![8]⟩
abbrev S8x1 : Shape := ⟨2, ![8, 1]⟩
abbrev S6 : Shape := ⟨1, ![6]⟩

abbrev nBuf : Space → Nat
  | .hbm => 106
  | .vmem => 18
  | .smem => 0
  | _ => 0

abbrev bufTy : (tb : Table) → Fin (tcTables nBuf tb) → BufTy
  | .hbm, ⟨0, _⟩ => ⟨S8x16x1x32x32x256, .f32⟩
  | .hbm, ⟨1, _⟩ => ⟨S256x256x2x2, .f32⟩
  | .hbm, ⟨2, _⟩ => ⟨S256, .f32⟩
  | .hbm, ⟨3, _⟩ => ⟨S256, .f32⟩
  | .hbm, ⟨4, _⟩ => ⟨S256, .f32⟩
  | .hbm, ⟨5, _⟩ => ⟨S256x256x2x2, .f32⟩
  | .hbm, ⟨6, _⟩ => ⟨S256, .f32⟩
  | .hbm, ⟨7, _⟩ => ⟨S256, .f32⟩
  | .hbm, ⟨8, _⟩ => ⟨S256, .f32⟩
  | .hbm, ⟨9, _⟩ => ⟨S256x256x2x2, .f32⟩
  | .hbm, ⟨10, _⟩ => ⟨S256, .f32⟩
  | .hbm, ⟨11, _⟩ => ⟨S256, .f32⟩
  | .hbm, ⟨12, _⟩ => ⟨S256, .f32⟩
  | .hbm, ⟨13, _⟩ => ⟨S256x256x2x2, .f32⟩
  | .hbm, ⟨14, _⟩ => ⟨S256, .f32⟩
  | .hbm, ⟨15, _⟩ => ⟨S256, .f32⟩
  | .hbm, ⟨16, _⟩ => ⟨S256, .f32⟩
  | .hbm, ⟨17, _⟩ => ⟨S256x256x2x2, .f32⟩
  | .hbm, ⟨18, _⟩ => ⟨S256, .f32⟩
  | .hbm, ⟨19, _⟩ => ⟨S256, .f32⟩
  | .hbm, ⟨20, _⟩ => ⟨S256, .f32⟩
  | .hbm, ⟨21, _⟩ => ⟨S256x256, .f32⟩
  | .hbm, ⟨22, _⟩ => ⟨S256, .f32⟩
  | .hbm, ⟨23, _⟩ => ⟨S8x6, .f32⟩
  | .hbm, ⟨24, _⟩ => ⟨S_, .i32⟩
  | .hbm, ⟨25, _⟩ => ⟨S16x8, .f32⟩
  | .hbm, ⟨26, _⟩ => ⟨S16x8, .f32⟩
  | .hbm, ⟨27, _⟩ => ⟨S128x32x32x256, .f32⟩
  | .hbm, ⟨28, _⟩ => ⟨S2x2x256x256, .f32⟩
  | .hbm, ⟨29, _⟩ => ⟨S1024x256, .f32⟩
  | .hbm, ⟨30, _⟩ => ⟨S_, .f32⟩
  | .hbm, ⟨31, _⟩ => ⟨S256, .f32⟩
  | .hbm, ⟨32, _⟩ => ⟨S256, .f32⟩
  | .hbm, ⟨33, _⟩ => ⟨S1x256, .f32⟩
  | .hbm, ⟨34, _⟩ => ⟨S1024x256, .f32⟩
  | .hbm, ⟨35, _⟩ => ⟨S1024x256, .f32⟩
  | .hbm, ⟨36, _⟩ => ⟨S2x2x256x256, .f32⟩
  | .hbm, ⟨37, _⟩ => ⟨S1024x256, .f32⟩
  | .hbm, ⟨38, _⟩ => ⟨S_, .f32⟩
  | .hbm, ⟨39, _⟩ => ⟨S256, .f32⟩
  | .hbm, ⟨40, _⟩ => ⟨S256, .f32⟩
  | .hbm, ⟨41, _⟩ => ⟨S1x256, .f32⟩
  | .hbm, ⟨42, _⟩ => ⟨S1024x256, .f32⟩
  | .hbm, ⟨43, _⟩ => ⟨S1024x256, .f32⟩
  | .hbm, ⟨44, _⟩ => ⟨S2x2x256x256, .f32⟩
  | .hbm, ⟨45, _⟩ => ⟨S1024x256, .f32⟩
  | .hbm, ⟨46, _⟩ => ⟨S_, .f32⟩
  | .hbm, ⟨47, _⟩ => ⟨S256, .f32⟩
  | .hbm, ⟨48, _⟩ => ⟨S256, .f32⟩
  | .hbm, ⟨49, _⟩ => ⟨S1x256, .f32⟩
  | .hbm, ⟨50, _⟩ => ⟨S1024x256, .f32⟩
  | .hbm, ⟨51, _⟩ => ⟨S1024x256, .f32⟩
  | .hbm, ⟨52, _⟩ => ⟨S2x2x256x256, .f32⟩
  | .hbm, ⟨53, _⟩ => ⟨S1024x256, .f32⟩
  | .hbm, ⟨54, _⟩ => ⟨S_, .f32⟩
  | .hbm, ⟨55, _⟩ => ⟨S256, .f32⟩
  | .hbm, ⟨56, _⟩ => ⟨S256, .f32⟩
  | .hbm, ⟨57, _⟩ => ⟨S1x256, .f32⟩
  | .hbm, ⟨58, _⟩ => ⟨S1024x256, .f32⟩
  | .hbm, ⟨59, _⟩ => ⟨S1024x256, .f32⟩
  | .hbm, ⟨60, _⟩ => ⟨S2x2x256x256, .f32⟩
  | .hbm, ⟨61, _⟩ => ⟨S1024x256, .f32⟩
  | .hbm, ⟨62, _⟩ => ⟨S_, .f32⟩
  | .hbm, ⟨63, _⟩ => ⟨S256, .f32⟩
  | .hbm, ⟨64, _⟩ => ⟨S256, .f32⟩
  | .hbm, ⟨65, _⟩ => ⟨S1x256, .f32⟩
  | .hbm, ⟨66, _⟩ => ⟨S1024x256, .f32⟩
  | .hbm, ⟨67, _⟩ => ⟨S1024x256, .f32⟩
  | .hbm, ⟨68, _⟩ => ⟨S256, .f32⟩
  | .hbm, ⟨69, _⟩ => ⟨S_, .f32⟩
  | .hbm, ⟨70, _⟩ => ⟨S256, .f32⟩
  | .hbm, ⟨71, _⟩ => ⟨S256, .f32⟩
  | .hbm, ⟨72, _⟩ => ⟨S256, .f32⟩
  | .hbm, ⟨73, _⟩ => ⟨S256, .f32⟩
  | .hbm, ⟨74, _⟩ => ⟨S_, .f32⟩
  | .hbm, ⟨75, _⟩ => ⟨S256, .f32⟩
  | .hbm, ⟨76, _⟩ => ⟨S256, .f32⟩
  | .hbm, ⟨77, _⟩ => ⟨S256, .f32⟩
  | .hbm, ⟨78, _⟩ => ⟨S256, .f32⟩
  | .hbm, ⟨79, _⟩ => ⟨S_, .f32⟩
  | .hbm, ⟨80, _⟩ => ⟨S256, .f32⟩
  | .hbm, ⟨81, _⟩ => ⟨S256, .f32⟩
  | .hbm, ⟨82, _⟩ => ⟨S256, .f32⟩
  | .hbm, ⟨83, _⟩ => ⟨S256, .f32⟩
  | .hbm, ⟨84, _⟩ => ⟨S_, .f32⟩
  | .hbm, ⟨85, _⟩ => ⟨S256, .f32⟩
  | .hbm, ⟨86, _⟩ => ⟨S256, .f32⟩
  | .hbm, ⟨87, _⟩ => ⟨S256, .f32⟩
  | .hbm, ⟨88, _⟩ => ⟨S256, .f32⟩
  | .hbm, ⟨89, _⟩ => ⟨S_, .f32⟩
  | .hbm, ⟨90, _⟩ => ⟨S256, .f32⟩
  | .hbm, ⟨91, _⟩ => ⟨S256, .f32⟩
  | .hbm, ⟨92, _⟩ => ⟨S256, .f32⟩
  | .hbm, ⟨93, _⟩ => ⟨S1x256, .f32⟩
  | .hbm, ⟨94, _⟩ => ⟨S1x256, .f32⟩
  | .hbm, ⟨95, _⟩ => ⟨S1x256, .f32⟩
  | .hbm, ⟨96, _⟩ => ⟨S1x256, .f32⟩
  | .hbm, ⟨97, _⟩ => ⟨S1x256, .f32⟩
  | .hbm, ⟨98, _⟩ => ⟨S5x256, .f32⟩
  | .hbm, ⟨99, _⟩ => ⟨S5x1x256, .f32⟩
  | .hbm, ⟨100, _⟩ => ⟨S1x256, .f32⟩
  | .hbm, ⟨101, _⟩ => ⟨S128x256, .f32⟩
  | .hbm, ⟨102, _⟩ => ⟨S8x16x256, .f32⟩
  | .hbm, ⟨103, _⟩ => ⟨S8x6, .f32⟩
  | .hbm, ⟨104, _⟩ => ⟨S1x6, .i32⟩
  | .hbm, ⟨105, _⟩ => ⟨S6, .i32⟩
  | .local _ .vmem, ⟨0, _⟩ => ⟨S16x32x32x256, .f32⟩
  | .local _ .vmem, ⟨1, _⟩ => ⟨S16x32x32x256, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S5x1x256, .f32⟩
  | .local _ .vmem, ⟨8, _⟩ => ⟨S256x256, .f32⟩
  | .local _ .vmem, ⟨9, _⟩ => ⟨S1x256, .f32⟩
  | .local _ .vmem, ⟨10, _⟩ => ⟨S16x256, .f32⟩
  | .local _ .vmem, ⟨11, _⟩ => ⟨S16x256, .f32⟩
  | .local _ .vmem, ⟨12, _⟩ => ⟨S8x16x256, .f32⟩
  | .local _ .vmem, ⟨13, _⟩ => ⟨S16x8, .f32⟩
  | .local _ .vmem, ⟨14, _⟩ => ⟨S16x8, .f32⟩
  | .local _ .vmem, ⟨15, _⟩ => ⟨S8x6, .f32⟩
  | .local _ .vmem, ⟨16, _⟩ => ⟨S8x6, .f32⟩
  | .local _ .vmem, ⟨17, _⟩ => ⟨S1x6, .i32⟩
  | _, _ => ⟨S8x16x1x32x32x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_cst : Ref sig .tc := ⟨.hbm, 25, rfl⟩
abbrev main_cst_0 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_cst_1 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_cst_2 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_cst_3 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_cst_4 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_cst_5 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_cst_6 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_cst_7 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_cst_8 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_cst_9 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_cst_10 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66_0 : Ref sig .tc := ⟨.hbm, 103, rfl⟩
abbrev main_v66_1 : Ref sig .tc := ⟨.hbm, 104, rfl⟩
abbrev main_v67 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc1_stg0_0 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc1_sem0_0 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem5_0 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x32x32x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S5x1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S16x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := .none

abbrev stage1_0 : Fin 1 → Memref sig .tc .vmem S8x16x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S16x8 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S16x8 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S8x6 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S8x6 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S1x6 .i32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
-- ==== ReferenceIdeal.lean ====
abbrev S8x16x1x32x32x256 : Shape := ⟨6, ![8, 16, 1, 32, 32, 256]⟩
abbrev S256x256x2x2 : Shape := ⟨4, ![256, 256, 2, 2]⟩
abbrev S256 : Shape := ⟨1, ![256]⟩
abbrev S256x256 : Shape := ⟨2, ![256, 256]⟩
abbrev S8x6 : Shape := ⟨2, ![8, 6]⟩
abbrev S_ : Shape := ⟨0, ![]⟩
abbrev S16x8 : Shape := ⟨2, ![16, 8]⟩
abbrev S8x16x1x256x32x32 : Shape := ⟨6, ![8, 16, 1, 256, 32, 32]⟩
abbrev S128x256x32x32 : Shape := ⟨4, ![128, 256, 32, 32]⟩
abbrev S128x256x16x16 : Shape := ⟨4, ![128, 256, 16, 16]⟩
abbrev S256x256x1x1 : Shape := ⟨4, ![256, 256, 1, 1]⟩
abbrev S256x128x16x16 : Shape := ⟨4, ![256, 128, 16, 16]⟩
abbrev S1x256x1x1 : Shape := ⟨4, ![1, 256, 1, 1]⟩
abbrev S128x256x8x8 : Shape := ⟨4, ![128, 256, 8, 8]⟩
abbrev S256x128x8x8 : Shape := ⟨4, ![256, 128, 8, 8]⟩
abbrev S128x256x4x4 : Shape := ⟨4, ![128, 256, 4, 4]⟩
abbrev S256x128x4x4 : Shape := ⟨4, ![256, 128, 4, 4]⟩
abbrev S128x256x2x2 : Shape := ⟨4, ![128, 256, 2, 2]⟩
abbrev S256x128x2x2 : Shape := ⟨4, ![256, 128, 2, 2]⟩
abbrev S128x256x1x1 : Shape := ⟨4, ![128, 256, 1, 1]⟩
abbrev S256x128x1x1 : Shape := ⟨4, ![256, 128, 1, 1]⟩
abbrev S8x16x256 : Shape := ⟨3, ![8, 16, 256]⟩
abbrev S1x1x256 : Shape := ⟨3, ![1, 1, 256]⟩
abbrev S8x256x16 : Shape := ⟨3, ![8, 256, 16]⟩
abbrev S8x256x8 : Shape := ⟨3, ![8, 256, 8]⟩
abbrev S8x256x6 : Shape := ⟨3, ![8, 256, 6]⟩
abbrev S8x3 : Shape := ⟨2, ![8, 3]⟩
abbrev S8x2 : Shape := ⟨2, ![8, 2]⟩
abbrev S8 : Shape := ⟨1, ![8]⟩
abbrev S8x1 : Shape := ⟨2, ![8, 1]⟩
abbrev S8x2x1 : Shape := ⟨3, ![8, 2, 1]⟩
abbrev S8x2x2 : Shape := ⟨3, ![8, 2, 2]⟩
abbrev S6 : Shape := ⟨1, ![6]⟩

abbrev nBuf : Space → Nat
  | .hbm => 300
  | .vmem => 0
  | .smem => 0
  | _ => 0

abbrev hbmTy0_0 (i : Nat) : BufTy := match i % 128 with
  | 0 => ⟨S8x16x1x32x32x256, .f32⟩
  | 1 => ⟨S256x256x2x2, .f32⟩
  | 2 => ⟨S256, .f32⟩
  | 3 => ⟨S256, .f32⟩
  | 4 => ⟨S256, .f32⟩
  | 5 => ⟨S256x256x2x2, .f32⟩
  | 6 => ⟨S256, .f32⟩
  | 7 => ⟨S256, .f32⟩
  | 8 => ⟨S256, .f32⟩
  | 9 => ⟨S256x256x2x2, .f32⟩
  | 10 => ⟨S256, .f32⟩
  | 11 => ⟨S256, .f32⟩
  | 12 => ⟨S256, .f32⟩
  | 13 => ⟨S256x256x2x2, .f32⟩
  | 14 => ⟨S256, .f32⟩
  | 15 => ⟨S256, .f32⟩
  | 16 => ⟨S256, .f32⟩
  | 17 => ⟨S256x256x2x2, .f32⟩
  | 18 => ⟨S256, .f32⟩
  | 19 => ⟨S256, .f32⟩
  | 20 => ⟨S256, .f32⟩
  | 21 => ⟨S256x256, .f32⟩
  | 22 => ⟨S256, .f32⟩
  | 23 => ⟨S8x6, .f32⟩
  | 24 => ⟨S_, .i32⟩
  | 25 => ⟨S16x8, .f32⟩
  | 26 => ⟨S16x8, .f32⟩
  | 27 => ⟨S8x16x1x256x32x32, .f32⟩
  | 28 => ⟨S128x256x32x32, .f32⟩
  | 29 => ⟨S128x256x16x16, .f32⟩
  | 30 => ⟨S256x256x1x1, .f32⟩
  | 31 => ⟨S256x256, .f32⟩
  | 32 => ⟨S256x128x16x16, .f32⟩
  | 33 => ⟨S128x256x16x16, .f32⟩
  | 34 => ⟨S_, .f32⟩
  | 35 => ⟨S128x256x16x16, .f32⟩
  | 36 => ⟨S128x256x16x16, .f32⟩
  | 37 => ⟨S128x256x16x16, .f32⟩
  | 38 => ⟨S256x256x1x1, .f32⟩
  | 39 => ⟨S256x256, .f32⟩
  | 40 => ⟨S256x128x16x16, .f32⟩
  | 41 => ⟨S128x256x16x16, .f32⟩
  | 42 => ⟨S128x256x16x16, .f32⟩
  | 43 => ⟨S128x256x16x16, .f32⟩
  | 44 => ⟨S256x256x1x1, .f32⟩
  | 45 => ⟨S256x256, .f32⟩
  | 46 => ⟨S256x128x16x16, .f32⟩
  | 47 => ⟨S128x256x16x16, .f32⟩
  | 48 => ⟨S128x256x16x16, .f32⟩
  | 49 => ⟨S128x256x16x16, .f32⟩
  | 50 => ⟨S256x256x1x1, .f32⟩
  | 51 => ⟨S256x256, .f32⟩
  | 52 => ⟨S256x128x16x16, .f32⟩
  | 53 => ⟨S128x256x16x16, .f32⟩
  | 54 => ⟨S128x256x16x16, .f32⟩
  | 55 => ⟨S1x256x1x1, .f32⟩
  | 56 => ⟨S128x256x16x16, .f32⟩
  | 57 => ⟨S128x256x16x16, .f32⟩
  | 58 => ⟨S_, .f32⟩
  | 59 => ⟨S128x256x16x16, .f32⟩
  | 60 => ⟨S128x256x16x16, .f32⟩
  | 61 => ⟨S1x256x1x1, .f32⟩
  | 62 => ⟨S128x256x16x16, .f32⟩
  | 63 => ⟨S128x256x16x16, .f32⟩
  | 64 => ⟨S1x256x1x1, .f32⟩
  | 65 => ⟨S128x256x16x16, .f32⟩
  | 66 => ⟨S128x256x16x16, .f32⟩
  | 67 => ⟨S_, .f32⟩
  | 68 => ⟨S128x256x16x16, .f32⟩
  | 69 => ⟨S128x256x16x16, .f32⟩
  | 70 => ⟨S128x256x8x8, .f32⟩
  | 71 => ⟨S256x256x1x1, .f32⟩
  | 72 => ⟨S256x256, .f32⟩
  | 73 => ⟨S256x128x8x8, .f32⟩
  | 74 => ⟨S128x256x8x8, .f32⟩
  | 75 => ⟨S_, .f32⟩
  | 76 => ⟨S128x256x8x8, .f32⟩
  | 77 => ⟨S128x256x8x8, .f32⟩
  | 78 => ⟨S128x256x8x8, .f32⟩
  | 79 => ⟨S256x256x1x1, .f32⟩
  | 80 => ⟨S256x256, .f32⟩
  | 81 => ⟨S256x128x8x8, .f32⟩
  | 82 => ⟨S128x256x8x8, .f32⟩
  | 83 => ⟨S128x256x8x8, .f32⟩
  | 84 => ⟨S128x256x8x8, .f32⟩
  | 85 => ⟨S256x256x1x1, .f32⟩
  | 86 => ⟨S256x256, .f32⟩
  | 87 => ⟨S256x128x8x8, .f32⟩
  | 88 => ⟨S128x256x8x8, .f32⟩
  | 89 => ⟨S128x256x8x8, .f32⟩
  | 90 => ⟨S128x256x8x8, .f32⟩
  | 91 => ⟨S256x256x1x1, .f32⟩
  | 92 => ⟨S256x256, .f32⟩
  | 93 => ⟨S256x128x8x8, .f32⟩
  | 94 => ⟨S128x256x8x8, .f32⟩
  | 95 => ⟨S128x256x8x8, .f32⟩
  | 96 => ⟨S1x256x1x1, .f32⟩
  | 97 => ⟨S128x256x8x8, .f32⟩
  | 98 => ⟨S128x256x8x8, .f32⟩
  | 99 => ⟨S_, .f32⟩
  | 100 => ⟨S128x256x8x8, .f32⟩
  | 101 => ⟨S128x256x8x8, .f32⟩
  | 102 => ⟨S1x256x1x1, .f32⟩
  | 103 => ⟨S128x256x8x8, .f32⟩
  | 104 => ⟨S128x256x8x8, .f32⟩
  | 105 => ⟨S1x256x1x1, .f32⟩
  | 106 => ⟨S128x256x8x8, .f32⟩
  | 107 => ⟨S128x256x8x8, .f32⟩
  | 108 => ⟨S_, .f32⟩
  | 109 => ⟨S128x256x8x8, .f32⟩
  | 110 => ⟨S128x256x8x8, .f32⟩
  | 111 => ⟨S128x256x4x4, .f32⟩
  | 112 => ⟨S256x256x1x1, .f32⟩
  | 113 => ⟨S256x256, .f32⟩
  | 114 => ⟨S256x128x4x4, .f32⟩
  | 115 => ⟨S128x256x4x4, .f32⟩
  | 116 => ⟨S_, .f32⟩
  | 117 => ⟨S128x256x4x4, .f32⟩
  | 118 => ⟨S128x256x4x4, .f32⟩
  | 119 => ⟨S128x256x4x4, .f32⟩
  | 120 => ⟨S256x256x1x1, .f32⟩
  | 121 => ⟨S256x256, .f32⟩
  | 122 => ⟨S256x128x4x4, .f32⟩
  | 123 => ⟨S128x256x4x4, .f32⟩
  | 124 => ⟨S128x256x4x4, .f32⟩
  | 125 => ⟨S128x256x4x4, .f32⟩
  | 126 => ⟨S256x256x1x1, .f32⟩
  | 127 => ⟨S256x256, .f32⟩
  | _ => ⟨S8x16x1x32x32x256, .f32⟩

abbrev hbmTy0_1 (i : Nat) : BufTy := match i % 128 with
  | 0 => ⟨S256x128x4x4, .f32⟩
  | 1 => ⟨S128x256x4x4, .f32⟩
  | 2 => ⟨S128x256x4x4, .f32⟩
  | 3 => ⟨S128x256x4x4, .f32⟩
  | 4 => ⟨S256x256x1x1, .f32⟩
  | 5 => ⟨S256x256, .f32⟩
  | 6 => ⟨S256x128x4x4, .f32⟩
  | 7 => ⟨S128x256x4x4, .f32⟩
  | 8 => ⟨S128x256x4x4, .f32⟩
  | 9 => ⟨S1x256x1x1, .f32⟩
  | 10 => ⟨S128x256x4x4, .f32⟩
  | 11 => ⟨S128x256x4x4, .f32⟩
  | 12 => ⟨S_, .f32⟩
  | 13 => ⟨S128x256x4x4, .f32⟩
  | 14 => ⟨S128x256x4x4, .f32⟩
  | 15 => ⟨S1x256x1x1, .f32⟩
  | 16 => ⟨S128x256x4x4, .f32⟩
  | 17 => ⟨S128x256x4x4, .f32⟩
  | 18 => ⟨S1x256x1x1, .f32⟩
  | 19 => ⟨S128x256x4x4, .f32⟩
  | 20 => ⟨S128x256x4x4, .f32⟩
  | 21 => ⟨S_, .f32⟩
  | 22 => ⟨S128x256x4x4, .f32⟩
  | 23 => ⟨S128x256x4x4, .f32⟩
  | 24 => ⟨S128x256x2x2, .f32⟩
  | 25 => ⟨S256x256x1x1, .f32⟩
  | 26 => ⟨S256x256, .f32⟩
  | 27 => ⟨S256x128x2x2, .f32⟩
  | 28 => ⟨S128x256x2x2, .f32⟩
  | 29 => ⟨S_, .f32⟩
  | 30 => ⟨S128x256x2x2, .f32⟩
  | 31 => ⟨S128x256x2x2, .f32⟩
  | 32 => ⟨S128x256x2x2, .f32⟩
  | 33 => ⟨S256x256x1x1, .f32⟩
  | 34 => ⟨S256x256, .f32⟩
  | 35 => ⟨S256x128x2x2, .f32⟩
  | 36 => ⟨S128x256x2x2, .f32⟩
  | 37 => ⟨S128x256x2x2, .f32⟩
  | 38 => ⟨S128x256x2x2, .f32⟩
  | 39 => ⟨S256x256x1x1, .f32⟩
  | 40 => ⟨S256x256, .f32⟩
  | 41 => ⟨S256x128x2x2, .f32⟩
  | 42 => ⟨S128x256x2x2, .f32⟩
  | 43 => ⟨S128x256x2x2, .f32⟩
  | 44 => ⟨S128x256x2x2, .f32⟩
  | 45 => ⟨S256x256x1x1, .f32⟩
  | 46 => ⟨S256x256, .f32⟩
  | 47 => ⟨S256x128x2x2, .f32⟩
  | 48 => ⟨S128x256x2x2, .f32⟩
  | 49 => ⟨S128x256x2x2, .f32⟩
  | 50 => ⟨S1x256x1x1, .f32⟩
  | 51 => ⟨S128x256x2x2, .f32⟩
  | 52 => ⟨S128x256x2x2, .f32⟩
  | 53 => ⟨S_, .f32⟩
  | 54 => ⟨S128x256x2x2, .f32⟩
  | 55 => ⟨S128x256x2x2, .f32⟩
  | 56 => ⟨S1x256x1x1, .f32⟩
  | 57 => ⟨S128x256x2x2, .f32⟩
  | 58 => ⟨S128x256x2x2, .f32⟩
  | 59 => ⟨S1x256x1x1, .f32⟩
  | 60 => ⟨S128x256x2x2, .f32⟩
  | 61 => ⟨S128x256x2x2, .f32⟩
  | 62 => ⟨S_, .f32⟩
  | 63 => ⟨S128x256x2x2, .f32⟩
  | 64 => ⟨S128x256x2x2, .f32⟩
  | 65 => ⟨S128x256x1x1, .f32⟩
  | 66 => ⟨S256x256x1x1, .f32⟩
  | 67 => ⟨S256x256, .f32⟩
  | 68 => ⟨S256x128x1x1, .f32⟩
  | 69 => ⟨S128x256x1x1, .f32⟩
  | 70 => ⟨S_, .f32⟩
  | 71 => ⟨S128x256x1x1, .f32⟩
  | 72 => ⟨S128x256x1x1, .f32⟩
  | 73 => ⟨S128x256x1x1, .f32⟩
  | 74 => ⟨S256x256x1x1, .f32⟩
  | 75 => ⟨S256x256, .f32⟩
  | 76 => ⟨S256x128x1x1, .f32⟩
  | 77 => ⟨S128x256x1x1, .f32⟩
  | 78 => ⟨S128x256x1x1, .f32⟩
  | 79 => ⟨S128x256x1x1, .f32⟩
  | 80 => ⟨S256x256x1x1, .f32⟩
  | 81 => ⟨S256x256, .f32⟩
  | 82 => ⟨S256x128x1x1, .f32⟩
  | 83 => ⟨S128x256x1x1, .f32⟩
  | 84 => ⟨S128x256x1x1, .f32⟩
  | 85 => ⟨S128x256x1x1, .f32⟩
  | 86 => ⟨S256x256x1x1, .f32⟩
  | 87 => ⟨S256x256, .f32⟩
  | 88 => ⟨S256x128x1x1, .f32⟩
  | 89 => ⟨S128x256x1x1, .f32⟩
  | 90 => ⟨S128x256x1x1, .f32⟩
  | 91 => ⟨S1x256x1x1, .f32⟩
  | 92 => ⟨S128x256x1x1, .f32⟩
  | 93 => ⟨S128x256x1x1, .f32⟩
  | 94 => ⟨S_, .f32⟩
  | 95 => ⟨S128x256x1x1, .f32⟩
  | 96 => ⟨S128x256x1x1, .f32⟩
  | 97 => ⟨S1x256x1x1, .f32⟩
  | 98 => ⟨S128x256x1x1, .f32⟩
  | 99 => ⟨S128x256x1x1, .f32⟩
  | 100 => ⟨S1x256x1x1, .f32⟩
  | 101 => ⟨S128x256x1x1, .f32⟩
  | 102 => ⟨S128x256x1x1, .f32⟩
  | 103 => ⟨S_, .f32⟩
  | 104 => ⟨S128x256x1x1, .f32⟩
  | 105 => ⟨S128x256x1x1, .f32⟩
  | 106 => ⟨S8x16x256, .f32⟩
  | 107 => ⟨S256x256, .f32⟩
  | 108 => ⟨S8x16x256, .f32⟩
  | 109 => ⟨S1x1x256, .f32⟩
  | 110 => ⟨S8x16x256, .f32⟩
  | 111 => ⟨S8x16x256, .f32⟩
  | 112 => ⟨S8x256x16, .f32⟩
  | 113 => ⟨S8x256x8, .f32⟩
  | 114 => ⟨S8x256x8, .f32⟩
  | 115 => ⟨S8x256x8, .f32⟩
  | 116 => ⟨S8x256x8, .f32⟩
  | 117 => ⟨S8x256x8, .f32⟩
  | 118 => ⟨S8x256x8, .f32⟩
  | 119 => ⟨S8x256x6, .f32⟩
  | 120 => ⟨S_, .f32⟩
  | 121 => ⟨S8x6, .f32⟩
  | 122 => ⟨S_, .f32⟩
  | 123 => ⟨S8x6, .f32⟩
  | 124 => ⟨S8x6, .f32⟩
  | 125 => ⟨S8x3, .f32⟩
  | 126 => ⟨S8x3, .i32⟩
  | 127 => ⟨S8x2, .f32⟩
  | _ => ⟨S8x16x1x32x32x256, .f32⟩

abbrev hbmTy0_2 (i : Nat) : BufTy := match i % 128 with
  | 0 => ⟨S8x2, .i32⟩
  | 1 => ⟨S_, .f32⟩
  | 2 => ⟨S8, .f32⟩
  | 3 => ⟨S_, .f32⟩
  | 4 => ⟨S8, .f32⟩
  | 5 => ⟨S8, .f32⟩
  | 6 => ⟨S8x1, .f32⟩
  | 7 => ⟨S8x2, .f32⟩
  | 8 => ⟨S8x2, .f32⟩
  | 9 => ⟨S8x2, .f32⟩
  | 10 => ⟨S_, .f32⟩
  | 11 => ⟨S8, .f32⟩
  | 12 => ⟨S8x1, .f32⟩
  | 13 => ⟨S8x2, .f32⟩
  | 14 => ⟨S8x2, .f32⟩
  | 15 => ⟨S_, .f32⟩
  | 16 => ⟨S8x6, .f32⟩
  | 17 => ⟨S8, .i32⟩
  | 18 => ⟨S8x1, .i32⟩
  | 19 => ⟨S_, .i32⟩
  | 20 => ⟨S8x1, .i32⟩
  | 21 => ⟨S8x1, .i1⟩
  | 22 => ⟨S_, .i32⟩
  | 23 => ⟨S8x1, .i32⟩
  | 24 => ⟨S8x1, .i32⟩
  | 25 => ⟨S8x1, .i32⟩
  | 26 => ⟨S_, .i32⟩
  | 27 => ⟨S8x2, .i32⟩
  | 28 => ⟨S8x2, .i1⟩
  | 29 => ⟨S_, .i32⟩
  | 30 => ⟨S8x2, .i32⟩
  | 31 => ⟨S8x2, .i32⟩
  | 32 => ⟨S8x2, .i32⟩
  | 33 => ⟨S8x2, .i32⟩
  | 34 => ⟨S8x2x1, .i32⟩
  | 35 => ⟨S8x2x1, .i32⟩
  | 36 => ⟨S8x2x2, .i32⟩
  | 37 => ⟨S8x6, .f32⟩
  | 38 => ⟨S_, .f32⟩
  | 39 => ⟨S8x6, .f32⟩
  | 40 => ⟨S8x6, .i1⟩
  | 41 => ⟨S8x6, .i32⟩
  | 42 => ⟨S_, .i32⟩
  | 43 => ⟨S6, .i32⟩
  | _ => ⟨S8x16x1x32x32x256, .f32⟩

abbrev hbmTy (i : Nat) : BufTy := match i / 128 with
  | 0 => hbmTy0_0 i
  | 1 => hbmTy0_1 i
  | 2 => hbmTy0_2 i
  | _ => ⟨S8x16x1x32x32x256, .f32⟩

abbrev bufTy : (tb : Table) → Fin (tcTables nBuf tb) → BufTy
  | .hbm, ⟨i, _⟩ => hbmTy i
  | _, _ => ⟨S8x16x1x32x32x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_cst : Ref sig .tc := ⟨.hbm, 25, rfl⟩
abbrev main_cst_0 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_cst_1 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_cst_2 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_call0_cst : Ref sig .tc := ⟨.hbm, 67, rfl⟩
abbrev main_call0_v0 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_cst_3 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_cst_4 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_call1_cst : Ref sig .tc := ⟨.hbm, 108, rfl⟩
abbrev main_call1_v0 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_cst_5 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_cst_6 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_call2_cst : Ref sig .tc := ⟨.hbm, 149, rfl⟩
abbrev main_call2_v0 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_cst_7 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_cst_8 : Ref sig .tc := ⟨.hbm, 181, rfl⟩
abbrev main_v141 : Ref sig .tc := ⟨.hbm, 182, rfl⟩
abbrev main_v142 : Ref sig .tc := ⟨.hbm, 183, rfl⟩
abbrev main_v143 : Ref sig .tc := ⟨.hbm, 184, rfl⟩
abbrev main_v144 : Ref sig .tc := ⟨.hbm, 185, rfl⟩
abbrev main_v145 : Ref sig .tc := ⟨.hbm, 186, rfl⟩
abbrev main_v146 : Ref sig .tc := ⟨.hbm, 187, rfl⟩
abbrev main_v147 : Ref sig .tc := ⟨.hbm, 188, rfl⟩
abbrev main_v148 : Ref sig .tc := ⟨.hbm, 189, rfl⟩
abbrev main_call3_cst : Ref sig .tc := ⟨.hbm, 190, rfl⟩
abbrev main_call3_v0 : Ref sig .tc := ⟨.hbm, 191, rfl⟩
abbrev main_v149 : Ref sig .tc := ⟨.hbm, 192, rfl⟩
abbrev main_v150 : Ref sig .tc := ⟨.hbm, 193, rfl⟩
abbrev main_v151 : Ref sig .tc := ⟨.hbm, 194, rfl⟩
abbrev main_v152 : Ref sig .tc := ⟨.hbm, 195, rfl⟩
abbrev main_v153 : Ref sig .tc := ⟨.hbm, 196, rfl⟩
abbrev main_v154 : Ref sig .tc := ⟨.hbm, 197, rfl⟩
abbrev main_cst_9 : Ref sig .tc := ⟨.hbm, 198, rfl⟩
abbrev main_v155 : Ref sig .tc := ⟨.hbm, 199, rfl⟩
abbrev main_v156 : Ref sig .tc := ⟨.hbm, 200, rfl⟩
abbrev main_v157 : Ref sig .tc := ⟨.hbm, 201, rfl⟩
abbrev main_v158 : Ref sig .tc := ⟨.hbm, 202, rfl⟩
abbrev main_v159 : Ref sig .tc := ⟨.hbm, 203, rfl⟩
abbrev main_v160 : Ref sig .tc := ⟨.hbm, 204, rfl⟩
abbrev main_v161 : Ref sig .tc := ⟨.hbm, 205, rfl⟩
abbrev main_v162 : Ref sig .tc := ⟨.hbm, 206, rfl⟩
abbrev main_v163 : Ref sig .tc := ⟨.hbm, 207, rfl⟩
abbrev main_v164 : Ref sig .tc := ⟨.hbm, 208, rfl⟩
abbrev main_v165 : Ref sig .tc := ⟨.hbm, 209, rfl⟩
abbrev main_v166 : Ref sig .tc := ⟨.hbm, 210, rfl⟩
abbrev main_v167 : Ref sig .tc := ⟨.hbm, 211, rfl⟩
abbrev main_v168 : Ref sig .tc := ⟨.hbm, 212, rfl⟩
abbrev main_v169 : Ref sig .tc := ⟨.hbm, 213, rfl⟩
abbrev main_v170 : Ref sig .tc := ⟨.hbm, 214, rfl⟩
abbrev main_v171 : Ref sig .tc := ⟨.hbm, 215, rfl⟩
abbrev main_v172 : Ref sig .tc := ⟨.hbm, 216, rfl⟩
abbrev main_v173 : Ref sig .tc := ⟨.hbm, 217, rfl⟩
abbrev main_v174 : Ref sig .tc := ⟨.hbm, 218, rfl⟩
abbrev main_v175 : Ref sig .tc := ⟨.hbm, 219, rfl⟩
abbrev main_v176 : Ref sig .tc := ⟨.hbm, 220, rfl⟩
abbrev main_v177 : Ref sig .tc := ⟨.hbm, 221, rfl⟩
abbrev main_cst_10 : Ref sig .tc := ⟨.hbm, 222, rfl⟩
abbrev main_v178 : Ref sig .tc := ⟨.hbm, 223, rfl⟩
abbrev main_v179 : Ref sig .tc := ⟨.hbm, 224, rfl⟩
abbrev main_v180 : Ref sig .tc := ⟨.hbm, 225, rfl⟩
abbrev main_v181 : Ref sig .tc := ⟨.hbm, 226, rfl⟩
abbrev main_v182 : Ref sig .tc := ⟨.hbm, 227, rfl⟩
abbrev main_v183 : Ref sig .tc := ⟨.hbm, 228, rfl⟩
abbrev main_v184 : Ref sig .tc := ⟨.hbm, 229, rfl⟩
abbrev main_v185 : Ref sig .tc := ⟨.hbm, 230, rfl⟩
abbrev main_call4_cst : Ref sig .tc := ⟨.hbm, 231, rfl⟩
abbrev main_call4_v0 : Ref sig .tc := ⟨.hbm, 232, rfl⟩
abbrev main_v186 : Ref sig .tc := ⟨.hbm, 233, rfl⟩
abbrev main_v187 : Ref sig .tc := ⟨.hbm, 234, rfl⟩
abbrev main_v188 : Ref sig .tc := ⟨.hbm, 235, rfl⟩
abbrev main_v189 : Ref sig .tc := ⟨.hbm, 236, rfl⟩
abbrev main_v190 : Ref sig .tc := ⟨.hbm, 237, rfl⟩
abbrev main_v191 : Ref sig .tc := ⟨.hbm, 238, rfl⟩
abbrev main_v192 : Ref sig .tc := ⟨.hbm, 239, rfl⟩
abbrev main_v193 : Ref sig .tc := ⟨.hbm, 240, rfl⟩
abbrev main_v194 : Ref sig .tc := ⟨.hbm, 241, rfl⟩
abbrev main_v195 : Ref sig .tc := ⟨.hbm, 242, rfl⟩
abbrev main_v196 : Ref sig .tc := ⟨.hbm, 243, rfl⟩
abbrev main_v197 : Ref sig .tc := ⟨.hbm, 244, rfl⟩
abbrev main_v198 : Ref sig .tc := ⟨.hbm, 245, rfl⟩
abbrev main_v199 : Ref sig .tc := ⟨.hbm, 246, rfl⟩
abbrev main_v200 : Ref sig .tc := ⟨.hbm, 247, rfl⟩
abbrev main_cst_11 : Ref sig .tc := ⟨.hbm, 248, rfl⟩
abbrev main_v201 : Ref sig .tc := ⟨.hbm, 249, rfl⟩
abbrev main_cst_12 : Ref sig .tc := ⟨.hbm, 250, rfl⟩
abbrev main_v202 : Ref sig .tc := ⟨.hbm, 251, rfl⟩
abbrev main_v203 : Ref sig .tc := ⟨.hbm, 252, rfl⟩
abbrev main_values : Ref sig .tc := ⟨.hbm, 253, rfl⟩
abbrev main_indices : Ref sig .tc := ⟨.hbm, 254, rfl⟩
abbrev main_v204 : Ref sig .tc := ⟨.hbm, 255, rfl⟩
abbrev main_v205 : Ref sig .tc := ⟨.hbm, 256, rfl⟩
abbrev main_cst_13 : Ref sig .tc := ⟨.hbm, 257, rfl⟩
abbrev main_v206 : Ref sig .tc := ⟨.hbm, 258, rfl⟩
abbrev main_cst_14 : Ref sig .tc := ⟨.hbm, 259, rfl⟩
abbrev main_v207 : Ref sig .tc := ⟨.hbm, 260, rfl⟩
abbrev main_v208 : Ref sig .tc := ⟨.hbm, 261, rfl⟩
abbrev main_v209 : Ref sig .tc := ⟨.hbm, 262, rfl⟩
abbrev main_v210 : Ref sig .tc := ⟨.hbm, 263, rfl⟩
abbrev main_v211 : Ref sig .tc := ⟨.hbm, 264, rfl⟩
abbrev main_v212 : Ref sig .tc := ⟨.hbm, 265, rfl⟩
abbrev main_cst_15 : Ref sig .tc := ⟨.hbm, 266, rfl⟩
abbrev main_v213 : Ref sig .tc := ⟨.hbm, 267, rfl⟩
abbrev main_v214 : Ref sig .tc := ⟨.hbm, 268, rfl⟩
abbrev main_v215 : Ref sig .tc := ⟨.hbm, 269, rfl⟩
abbrev main_v216 : Ref sig .tc := ⟨.hbm, 270, rfl⟩
abbrev main_cst_16 : Ref sig .tc := ⟨.hbm, 271, rfl⟩
abbrev main_v217 : Ref sig .tc := ⟨.hbm, 272, rfl⟩
abbrev main_v218 : Ref sig .tc := ⟨.hbm, 273, rfl⟩
abbrev main_v219 : Ref sig .tc := ⟨.hbm, 274, rfl⟩
abbrev main_c : Ref sig .tc := ⟨.hbm, 275, rfl⟩
abbrev main_v220 : Ref sig .tc := ⟨.hbm, 276, rfl⟩
abbrev main_v221 : Ref sig .tc := ⟨.hbm, 277, rfl⟩
abbrev main_c_17 : Ref sig .tc := ⟨.hbm, 278, rfl⟩
abbrev main_v222 : Ref sig .tc := ⟨.hbm, 279, rfl⟩
abbrev main_v223 : Ref sig .tc := ⟨.hbm, 280, rfl⟩
abbrev main_v224 : Ref sig .tc := ⟨.hbm, 281, rfl⟩
abbrev main_c_18 : Ref sig .tc := ⟨.hbm, 282, rfl⟩
abbrev main_v225 : Ref sig .tc := ⟨.hbm, 283, rfl⟩
abbrev main_v226 : Ref sig .tc := ⟨.hbm, 284, rfl⟩
abbrev main_c_19 : Ref sig .tc := ⟨.hbm, 285, rfl⟩
abbrev main_v227 : Ref sig .tc := ⟨.hbm, 286, rfl⟩
abbrev main_v228 : Ref sig .tc := ⟨.hbm, 287, rfl⟩
abbrev main_v229 : Ref sig .tc := ⟨.hbm, 288, rfl⟩
abbrev main_v230 : Ref sig .tc := ⟨.hbm, 289, rfl⟩
abbrev main_v231 : Ref sig .tc := ⟨.hbm, 290, rfl⟩
abbrev main_v232 : Ref sig .tc := ⟨.hbm, 291, rfl⟩
abbrev main_v233 : Ref sig .tc := ⟨.hbm, 292, rfl⟩
abbrev main_v234 : Ref sig .tc := ⟨.hbm, 293, rfl⟩
abbrev main_cst_20 : Ref sig .tc := ⟨.hbm, 294, rfl⟩
abbrev main_v235 : Ref sig .tc := ⟨.hbm, 295, rfl⟩
abbrev main_v236 : Ref sig .tc := ⟨.hbm, 296, rfl⟩
abbrev main_v237 : Ref sig .tc := ⟨.hbm, 297, rfl⟩
abbrev main_c_21 : Ref sig .tc := ⟨.hbm, 298, rfl⟩
abbrev main_v238 : Ref sig .tc := ⟨.hbm, 299, rfl⟩

abbrev nD : Nat := 1
abbrev τ : Topo := Topo.v7x

variable {F : FTy → Type} [FloatOps F]
-- ==== Proof.RunMain.lean ====
module

public import proofs.«01_k».proof.Proof.Gen.KernelIdeal.Frame

/-! The kernel's run with its results: every execution ends with the two result arrays holding what the last boundary's
    contents say, and the arguments unchanged. -/

@[expose] public section

set_option maxRecDepth 16384
noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with what the two result arrays hold. -/
theorem run_main : θ_run defs (onTc (τ := τ) (main (F := F))) ⟨m, fun _ => 0, ρ⟩ (fun r => ∀ c : Dev nD,
      r.2.mem ((c.tc : Thread nD τ).loc main_v66_0) = W5 m ρ c (Proc.devRef .tc main_v66_0)
      ∧ r.2.mem ((c.tc : Thread nD τ).loc main_v67) = W5 m ρ c (Proc.devRef .tc main_v67)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ c =>
      ⟨(h c _ (mem_uc main_v66_0 (by decide))), (h c _ (mem_uc main_v67 (by decide))),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c),
       (h c _ (mem_uc main_arg10 (by decide))).trans (W5_main_arg10 m ρ c),
       (h c _ (mem_uc main_arg11 (by decide))).trans (W5_main_arg11 m ρ c),
       (h c _ (mem_uc main_arg12 (by decide))).trans (W5_main_arg12 m ρ c),
       (h c _ (mem_uc main_arg13 (by decide))).trans (W5_main_arg13 m ρ c),
       (h c _ (mem_uc main_arg14 (by decide))).trans (W5_main_arg14 m ρ c),
       (h c _ (mem_uc main_arg15 (by decide))).trans (W5_main_arg15 m ρ c),
       (h c _ (mem_uc main_arg16 (by decide))).trans (W5_main_arg16 m ρ c),
       (h c _ (mem_uc main_arg17 (by decide))).trans (W5_main_arg17 m ρ c),
       (h c _ (mem_uc main_arg18 (by decide))).trans (W5_main_arg18 m ρ c),
       (h c _ (mem_uc main_arg19 (by decide))).trans (W5_main_arg19 m ρ c),
       (h c _ (mem_uc main_arg20 (by decide))).trans (W5_main_arg20 m ρ c),
       (h c _ (mem_uc main_arg21 (by decide))).trans (W5_main_arg21 m ρ c),
       (h c _ (mem_uc main_arg22 (by decide))).trans (W5_main_arg22 m ρ c),
       (h c _ (mem_uc main_arg23 (by decide))).trans (W5_main_arg23 m ρ c),
       (h c _ (mem_uc main_arg24 (by decide))).trans (W5_main_arg24 m ρ c)⟩)

end Cert.KernelIdeal.Run

end
-- ==== Proof.Layer.lean ====
module

public import Mathlib.Data.EReal.Operations
public import Mathlib.Algebra.BigOperators.Fin
public import Mathlib.Tactic.Ring
public import Mathlib.Tactic.NormNum

/-! One convolution layer, read at a point, in two spellings: as the problem states it (the sum of four shifted
    products, the bias, the normalisation's scale and shift, the rectifier) and as the kernel computes it (one
    product over the 1024 entries of a patch, with weights and bias that carry the scale). On real numbers the two
    are equal. An array of images is a function of the image's number, the row, the column and the channel. -/

@[expose] public section

noncomputable section

namespace Cert.Gate

/-- The extended real is a real number. -/
def IsReal (x : EReal) : Prop := ∃ r : ℝ, x = (r : EReal)

theorem IsReal.coe (r : ℝ) : IsReal (r : EReal) := ⟨r, rfl⟩

theorem IsReal.zero : IsReal 0 := ⟨0, rfl⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.max {x y : EReal} (hx : IsReal x) (hy : IsReal y) : IsReal (max x y) := by
  rcases max_choice x y with h | h <;> rw [h] <;> assumption

/-- The sum of real numbers, taken over the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.sum {ι : Type*} (s : Finset ι) (f : ι → EReal) (h : ∀ i, IsReal (f i)) : IsReal (∑ i ∈ s, f i) := by
  choose g hg using h
  exact ⟨∑ i ∈ s, g i, by rw [coe_sum]; exact Finset.sum_congr rfl fun i _ => hg i⟩

/-- A sum over 1024 entries as four sums over 256. -/
theorem sum_four {M : Type*} [AddCommMonoid M] (f : ℕ → M) :
    ∑ k : Fin 1024, f k = (((∑ c : Fin 256, f c) + ∑ c : Fin 256, f (256 + c)) + ∑ c : Fin 256, f (512 + c))
      + ∑ c : Fin 256, f (768 + c) := by
  rw [Fin.sum_univ_eq_sum_range f 1024, Fin.sum_univ_eq_sum_range f 256, Fin.sum_univ_eq_sum_range (fun c => f (256 + c)) 256,
    Fin.sum_univ_eq_sum_range (fun c => f (512 + c)) 256, Fin.sum_univ_eq_sum_range (fun c => f (768 + c)) 256,
    show (1024 : ℕ) = 256 + 256 + 256 + 256 from rfl, Finset.sum_range_add, Finset.sum_range_add, Finset.sum_range_add]

/-- Images: by number, row, column and channel. -/
abbrev Img := ℕ → ℕ → ℕ → Fin 256 → EReal

/-- Every entry is a real number. -/
def Img.Real (H : Img) : Prop := ∀ n i j c, IsReal (H n i j c)

/-- The layer as the problem states it, `κ` the normalisation's constant. -/
def refLayer (κ : EReal) (w : Fin 256 → Fin 256 → Fin 2 → Fin 2 → EReal) (b g be : Fin 256 → EReal) (H : Img) : Img :=
  fun n i j o =>
    max (((((((0 + ∑ c, w o c 0 0 * H n (2 * i) (2 * j) c) + ∑ c, w o c 0 1 * H n (2 * i) (2 * j + 1) c)
      + ∑ c, w o c 1 0 * H n (2 * i + 1) (2 * j) c) + ∑ c, w o c 1 1 * H n (2 * i + 1) (2 * j + 1) c)
      + b o) * κ) * g o + be o) 0

/-- The layer as the kernel computes it, from the weights of a patch and the bias. -/
def kerLayer (W : Fin 1024 → Fin 256 → EReal) (B : Fin 256 → EReal) (H : Img) : Img :=
  fun n i j o =>
    max ((∑ k : Fin 1024, H n (2 * i + k.val / 512) (2 * j + k.val / 256 % 2) ⟨k.val % 256, Nat.mod_lt _ (by norm_num)⟩ * W k o)
      + B o) 0

/-- A sum over 1024 entries as two sums over 512. -/
theorem sum_halves {M : Type*} [AddCommMonoid M] (f : Fin 1024 → M) :
    ∑ k, f k = ∑ k : Fin 512, f ⟨k.val, by omega⟩ + ∑ k : Fin 512, f ⟨512 + k.val, by omega⟩ :=
  Fin.sum_univ_add (a := 512) (b := 512) f

/-- The kernel's layer with the two rows of the patch apart. -/
theorem kerLayer_halves (W : Fin 1024 → Fin 256 → EReal) (B : Fin 256 → EReal) (H : Img) (n i j : ℕ) (o : Fin 256) :
    kerLayer W B H n i j o =
      max ((∑ k : Fin 512, H n (i * 2) (j * 2 + k.val / 256) ⟨k.val % 256, Nat.mod_lt _ (by norm_num)⟩ * W ⟨k.val, by omega⟩ o
        + ∑ k : Fin 512, H n (i * 2 + 1) (j * 2 + k.val / 256) ⟨k.val % 256, Nat.mod_lt _ (by norm_num)⟩ * W ⟨512 + k.val, by omega⟩ o)
        + B o) 0 := by
  unfold kerLayer
  rw [sum_halves]
  refine congrArg₂ max (congrArg₂ (· + ·) (congrArg₂ (· + ·) ?_ ?_) rfl) rfl
  · refine Finset.sum_congr rfl fun k _ => ?_
    have e1 : 2 * i + k.val / 512 = i * 2 := by omega
    have e2 : 2 * j + k.val / 256 % 2 = j * 2 + k.val / 256 := by omega
    rw [e1, e2]
  · refine Finset.sum_congr rfl fun k _ => ?_
    have e1 : 2 * i + (512 + k.val) / 512 = i * 2 + 1 := by omega
    have e2 : 2 * j + (512 + k.val) / 256 % 2 = j * 2 + k.val / 256 := by omega
    have e3 : (512 + k.val) % 256 = k.val % 256 := by omega
    simp only [e1, e2, e3]

/-- The weights of a patch, with the scale, from the layer's own. -/
def foldW (κ : EReal) (w : Fin 256 → Fin 256 → Fin 2 → Fin 2 → EReal) (g : Fin 256 → EReal) (k : Fin 1024) (o : Fin 256) : EReal :=
  w o ⟨k.val % 256, Nat.mod_lt _ (by norm_num)⟩ ⟨k.val / 512, by omega⟩ ⟨k.val / 256 % 2, Nat.mod_lt _ (by norm_num)⟩ * (g o * κ)

/-- The bias with the scale and the shift. -/
def foldB (κ : EReal) (b g be : Fin 256 → EReal) (o : Fin 256) : EReal := b o * g o * κ + be o

/-- The layer keeps real entries real. -/
theorem refLayer_real {κ : EReal} {w : Fin 256 → Fin 256 → Fin 2 → Fin 2 → EReal} {b g be : Fin 256 → EReal} {H : Img}
    (hκ : IsReal κ) (hw : ∀ o c p q, IsReal (w o c p q)) (hb : ∀ o, IsReal (b o)) (hg : ∀ o, IsReal (g o)) (hbe : ∀ o, IsReal (be o))
    (hH : H.Real) : (refLayer κ w b g be H).Real := fun n i j o =>
  ((((((((IsReal.zero.add (IsReal.sum _ _ fun c => (hw o c 0 0).mul (hH _ _ _ c))).add
    (IsReal.sum _ _ fun c => (hw o c 0 1).mul (hH _ _ _ c))).add
    (IsReal.sum _ _ fun c => (hw o c 1 0).mul (hH _ _ _ c))).add
    (IsReal.sum _ _ fun c => (hw o c 1 1).mul (hH _ _ _ c))).add (hb o)).mul hκ).mul (hg o)).add (hbe o)).max IsReal.zero

/-- On real entries the two layers are equal. -/
theorem kerLayer_eq {κ : EReal} {w : Fin 256 → Fin 256 → Fin 2 → Fin 2 → EReal} {b g be : Fin 256 → EReal} {H : Img}
    (hκ : IsReal κ) (hw : ∀ o c p q, IsReal (w o c p q)) (hb : ∀ o, IsReal (b o)) (hg : ∀ o, IsReal (g o)) (hbe : ∀ o, IsReal (be o))
    (hH : H.Real) : kerLayer (foldW κ w g) (foldB κ b g be) H = refLayer κ w b g be H := by
  obtain ⟨κ', rfl⟩ := hκ
  choose w' hw' using hw
  choose b' hb' using hb
  choose g' hg' using hg
  choose be' hbe' using hbe
  choose H' hH' using hH
  funext n i j o
  unfold kerLayer refLayer foldW foldB
  congr 1
  -- one product per entry of the patch, named by its place
  have key := sum_four (fun k : ℕ => (H' n (2 * i + k / 512) (2 * j + k / 256 % 2) ⟨k % 256, Nat.mod_lt _ (by norm_num)⟩
    * (w' o ⟨k % 256, Nat.mod_lt _ (by norm_num)⟩ ⟨k / 512 % 2, Nat.mod_lt _ (by norm_num)⟩ ⟨k / 256 % 2, Nat.mod_lt _ (by norm_num)⟩
      * (g' o * κ'))))
  have h0 : ∀ c : Fin 256, (c.val / 512 = 0) ∧ (c.val / 256 = 0) ∧ c.val % 256 = c.val := fun c => by omega
  have h1 : ∀ c : Fin 256, ((256 + c.val) / 512 = 0) ∧ ((256 + c.val) / 256 = 1) ∧ (256 + c.val) % 256 = c.val := fun c => by omega
  have h2 : ∀ c : Fin 256, ((512 + c.val) / 512 = 1) ∧ ((512 + c.val) / 256 = 2) ∧ (512 + c.val) % 256 = c.val := fun c => by omega
  have h3 : ∀ c : Fin 256, ((768 + c.val) / 512 = 1) ∧ ((768 + c.val) / 256 = 3) ∧ (768 + c.val) % 256 = c.val := fun c => by omega
  have hk : ∀ k : Fin 1024, k.val / 512 % 2 = k.val / 512 := fun k => by omega
  simp only [hk, (h0 _).1, (h0 _).2.1, (h0 _).2.2, (h1 _).1, (h1 _).2.1, (h1 _).2.2, (h2 _).1, (h2 _).2.1, (h2 _).2.2,
    (h3 _).1, (h3 _).2.1, (h3 _).2.2] at key
  simp only [hH', hw', hb', hg', hbe', ← EReal.coe_mul, ← coe_sum, ← EReal.coe_zero, ← EReal.coe_add]
  rw [key]
  congr 1
  have e0 : (⟨0 % 2, Nat.mod_lt _ (by norm_num)⟩ : Fin 2) = 0 := rfl
  have e1 : (⟨1 % 2, Nat.mod_lt _ (by norm_num)⟩ : Fin 2) = 1 := rfl
  have e2 : (⟨2 % 2, Nat.mod_lt _ (by norm_num)⟩ : Fin 2) = 0 := rfl
  have e3 : (⟨3 % 2, Nat.mod_lt _ (by norm_num)⟩ : Fin 2) = 1 := rfl
  have s : ∀ (p q : Fin 2) (a c' : ℕ), ∑ c, H' n a c' c * (w' o c p q * (g' o * κ')) = (∑ c, w' o c p q * H' n a c' c) * (g' o * κ') :=
    fun p q a c' => by rw [Finset.sum_mul]; exact Finset.sum_congr rfl fun c _ => by ring
  have t0 := s 0 0 (2 * i) (2 * j)
  have t1 := s 0 1 (2 * i) (2 * j + 1)
  have t2 := s 1 0 (2 * i + 1) (2 * j)
  have t3 := s 1 1 (2 * i + 1) (2 * j + 1)
  norm_num at t0 t1 t2 t3 ⊢
  rw [t0, t1, t2, t3]
  ring

end Cert.Gate

end
-- ==== Proof.Choice.lean ====
module

public import proofs.«01_k».proof.Proof.Layer
public import Idealize.ShloMosaic.PureOps.Ideal
public import Idealize.ShloMosaic.PureOps.Ideal.Laws
public import Idealize.ShloMosaic.Lib.SortPrefix

/-! The choice of two gates of six. `First l k` says that `k` is the first position of the row's greatest entry, `drop`
    takes a position out of the row, `gate` weighs the two chosen. The first two positions of a stable sort, greatest
    first, are these two. -/

@[expose] public section

noncomputable section

namespace Cert.Gate

open Idealize.ShloMosaic

/-- `k` is the first position of the row's greatest entry. -/
structure First (l : Fin 6 → EReal) (k : Fin 6) : Prop where
  ge : ∀ j, l j ≤ l k
  lt : ∀ j, j < k → l j < l k

/-- A row has a first greatest entry. -/
theorem exists_first (l : Fin 6 → EReal) : ∃ k, First l k := by
  classical
  obtain ⟨m, -, hm⟩ := Finset.exists_max_image (Finset.univ : Finset (Fin 6)) l ⟨0, Finset.mem_univ 0⟩
  have hne : (Finset.univ.filter fun j => l j = l m).Nonempty := ⟨m, by simp⟩
  have hk := Finset.min'_mem _ hne
  set k := Finset.min' _ hne with hkdef
  have hlk : l k = l m := (Finset.mem_filter.mp hk).2
  refine ⟨k, fun j => hlk ▸ hm j (Finset.mem_univ j), fun j hj => ?_⟩
  refine lt_of_le_of_ne (hlk ▸ hm j (Finset.mem_univ j)) fun h => ?_
  exact absurd (Finset.min'_le _ j (Finset.mem_filter.mpr ⟨Finset.mem_univ j, h.trans hlk⟩)) (not_le.mpr hj)

/-- The row without the entry at `k`. -/
def drop (l : Fin 6 → EReal) (k : Fin 6) : Fin 6 → EReal := fun j => if j = k then ⊥ else l j

/-- On real numbers the second choice is another position. -/
theorem First.ne {l : Fin 6 → EReal} (hl : ∀ j, IsReal (l j)) {k₁ k₂ : Fin 6} (h : First (drop l k₁) k₂) : k₂ ≠ k₁ := by
  rintro rfl
  obtain ⟨j, hj⟩ : ∃ j : Fin 6, j ≠ k₂ := ⟨if k₂ = 0 then 1 else 0, by split <;> omega⟩
  have h1 := h.ge j
  obtain ⟨r, hr⟩ := hl j
  simp [drop, hj, hr] at h1

theorem drop_ne {l : Fin 6 → EReal} {k₁ k₂ : Fin 6} (h : k₂ ≠ k₁) : drop l k₁ k₂ = l k₂ := if_neg h

/-- The second choice is no greater than the first. -/
theorem First.second_le {l : Fin 6 → EReal} (hl : ∀ j, IsReal (l j)) {k₁ k₂ : Fin 6} (h₁ : First l k₁) : l k₂ ≤ l k₁ := h₁.ge k₂

/-- The gates of a row, the two chosen positions given. -/
def gate (l : Fin 6 → EReal) (k₁ k₂ e : Fin 6) : EReal :=
  (if e = k₁ then Ideal.div 1 (1 + Ideal.exp (l k₂ - l k₁)) else 0)
    + (if e = k₂ then Ideal.div (Ideal.exp (l k₂ - l k₁)) (1 + Ideal.exp (l k₂ - l k₁)) else 0)

/-- The greatest entry, by a fold. -/
theorem fold_max {l : Fin 6 → EReal} {k : Fin 6} (h : First l k) : Finset.fold max ⊥ l Finset.univ = l k := by
  refine le_antisymm ?_ ?_
  · exact (Finset.fold_max_le _).mpr ⟨bot_le, fun j _ => h.ge j⟩
  · exact (Finset.le_fold_max _).mpr (Or.inr ⟨k, Finset.mem_univ k, le_rfl⟩)

/-- "Sorts before" of the positions of a row, greatest entry first, of equal ones the lower position first. -/
def before (l : Fin 6 → EReal) (i j : Fin 6) : Bool := decide (l j < l i) || (decide (l i = l j) && decide (i < j))

theorem before_strict (l : Fin 6 → EReal) : StrictTotalBefore (before l) where
  irrefl i := by simp [before]
  trans i j k hij hjk := by
    simp only [before, Bool.or_eq_true, Bool.and_eq_true, decide_eq_true_eq] at hij hjk ⊢
    rcases hij with h | ⟨h, h'⟩ <;> rcases hjk with g | ⟨g, g'⟩
    · exact Or.inl (g.trans h)
    · exact Or.inl (g ▸ h)
    · exact Or.inl (h ▸ g)
    · exact Or.inr ⟨h.trans g, h'.trans g'⟩
  total i j hne := by
    simp only [before, Bool.or_eq_true, Bool.and_eq_true, decide_eq_true_eq]
    rcases lt_trichotomy (l i) (l j) with h | h | h
    · exact Or.inr (Or.inl h)
    · rcases lt_or_gt_of_ne hne with g | g
      · exact Or.inl (Or.inr ⟨h, g⟩)
      · exact Or.inr (Or.inr ⟨h.symm, g⟩)
    · exact Or.inl (Or.inl h)

/-- A stable insertion compares a position only with later ones, so a comparison of the entries alone sorts alike. -/
theorem stableSort_before (l : Fin 6 → EReal) (R : Fin 6 → Fin 6 → Bool) (hR : ∀ i j, R i j = decide (l j < l i))
    (xs : List (Fin 6)) (hs : xs.Pairwise (· < ·)) : stableSort R xs = stableSort (before l) xs := by
  induction xs with
  | nil => rfl
  | cons a xs ih =>
    rw [List.pairwise_cons] at hs
    unfold stableSort
    rw [ih hs.2]
    refine insertBefore_congr R (before l) a _ fun b hb => ?_
    have hab : a < b := hs.1 b ((perm_stableSort _ xs).mem_iff.mp hb)
    simp [hR, before, not_lt.mpr hab.le]

theorem sortedFrom_before (l : Fin 6 → EReal) (R : Fin 6 → Fin 6 → Bool) (hR : ∀ i j, R i j = decide (l j < l i)) :
    sortedFrom R = sortedFrom (before l) := by
  have h : sortPositions 6 R = sortPositions 6 (before l) :=
    stableSort_before l R hR _ (List.pairwise_lt_finRange 6)
  funext k
  unfold sortedFrom
  rw [List.get_of_eq h]
  rfl

/-- The first two positions of the sort are the two choices. -/
theorem sortedFrom_two {l : Fin 6 → EReal} (hl : ∀ j, IsReal (l j)) {k₁ k₂ : Fin 6} (h₁ : First l k₁) (h₂ : First (drop l k₁) k₂)
    (R : Fin 6 → Fin 6 → Bool) (hR : ∀ i j, R i j = decide (l j < l i)) : sortedFrom R 0 = k₁ ∧ sortedFrom R 1 = k₂ := by
  have hne := First.ne hl h₂
  rw [sortedFrom_before l R hR]
  have key := (before_strict l).sortedFrom_eq_of_prefix (k := 2) (by norm_num) ![k₁, k₂] ?_ ?_ ?_
  · exact ⟨key 0, key 1⟩
  · intro i j hij
    fin_cases i <;> fin_cases j <;> simp_all
  · intro i j hij
    fin_cases i <;> fin_cases j <;> simp_all [before]
    refine ⟨h₁.ge k₂, fun h => ?_⟩
    by_contra hlt
    exact absurd (h₁.lt k₂ (not_le.mp hlt)) (by rw [h]; exact lt_irrefl _)
  · intro i p hp
    have hp1 : p ≠ k₁ := fun h => hp 0 h.symm
    have hp2 : p ≠ k₂ := fun h => hp 1 h.symm
    have g1 := h₂.ge p
    rw [drop_ne hp1, drop_ne hne] at g1
    have g2 : p < k₂ → l p < l k₂ := fun h => by
      have := h₂.lt p h
      rwa [drop_ne hp1, drop_ne hne] at this
    fin_cases i
    · simp only [before, Bool.or_eq_false_iff, Bool.and_eq_false_iff, decide_eq_false_iff_not]
      refine ⟨not_lt.mpr (h₁.ge p), ?_⟩
      by_cases h : p < k₁
      · exact Or.inl (h₁.lt p h).ne
      · exact Or.inr h
    · simp only [before, Bool.or_eq_false_iff, Bool.and_eq_false_iff, decide_eq_false_iff_not]
      refine ⟨not_lt.mpr g1, ?_⟩
      by_cases h : p < k₂
      · exact Or.inl (g2 h).ne
      · exact Or.inr h

end Cert.Gate

end
-- ==== Proof.GateRow.lean ====
module

public import proofs.«01_k».proof.Proof.Choice
public import proofs.«01_k».proof.Proof.Gen.KernelIdeal.Frame
public import Idealize.ShloMosaic.Lib.Pointwise

/-! The kernel's second call, piece by piece: a sequence's six logits, the eight sequences under one another, the marks of
    a row's greatest entry, and the gates from two marks. -/

@[expose] public section

set_option maxRecDepth 16384

noncomputable section

namespace Cert.KernelIdeal.Gat

open Idealize.ShloMosaic Cert.KernelIdeal Cert.KernelIdeal.Gen Cert.Gate

/-- A frequency's part in a channel of a sequence `x`, with the table `t`. -/
def part (x : Fin 16 → Fin 256 → EReal) (t : Fin 16 → Fin 8 → EReal) (f : Fin 8) (d : Fin 256) : EReal :=
  ∑ s : Fin 16, t s f * x s d

/-- The amplitude of a frequency in a channel. -/
def amp (x : Fin 16 → Fin 256 → EReal) (tc ts : Fin 16 → Fin 8 → EReal) (f : Fin 8) (d : Fin 256) : EReal :=
  Ideal.sqrt (part x tc f d * part x tc f d + part x ts f d * part x ts f d)

/-- The logit of a gate: the mean amplitudes, weighted. -/
def logit (x : Fin 16 → Fin 256 → EReal) (tc ts : Fin 16 → Fin 8 → EReal) (wg : Fin 8 → Fin 6 → EReal) (e : Fin 6) : EReal :=
  ∑ f : Fin 8, wg f e * Ideal.div (∑ d : Fin 256, amp x tc ts f d) (Ideal.ofBits .f32 0x43800000#32)

/-- One sequence's row. -/
theorem row_apply (x : FVec Ideal S1x16x256 .f32) (tc ts : FVec Ideal S16x8 .f32) (wg : FVec Ideal S8x6 .f32) (e : Fin 6) :
    k1_pay3 (F := Ideal) x tc ts wg (ix2 0 e)
      = logit (fun s d => x (ix3 0 s d)) (fun s f => tc (ix2 s f)) (fun s f => ts (ix2 s f)) (fun f e => wg (ix2 f e)) e := by
  pointwise [k1_pay3, logit, amp, part]

/-- The eight rows under one another. -/
def cat (r0 r1 r2 r3 r4 r5 r6 r7 : FVec Ideal S1x6 .f32) : FVec Ideal S8x6 .f32 :=
  concatenate S8x6 0 [⟨S1x6, r0⟩, ⟨S1x6, r1⟩, ⟨S1x6, r2⟩, ⟨S1x6, r3⟩, ⟨S1x6, r4⟩, ⟨S1x6, r5⟩, ⟨S1x6, r6⟩, ⟨S1x6, r7⟩]
    concatenates_S1x6_S1x6_S1x6_S1x6_S1x6_S1x6_S1x6_S1x6_S8x6_d0

/-- The greatest entry of each row. -/
def top (l : FVec Ideal S8x6 .f32) : FVec Ideal S8x1 .f32 :=
  shapeCast S8x1 (multiReduction .maximumf [1] S8 l 0xFF800000#32 reduces_S8x6_S8 (.inl rfl) rfl) shapeCasts_S8_S8x1

/-- The mark of each row's first greatest entry. -/
def mark (l : FVec Ideal S8x6 .f32) : IVec S8x6 1 :=
  cmpi .eq (iota .tc S8x6 32 [1] iota_S8x6_d1_w32)
    (broadcastTo S8x6 (shapeCast S8x1 (multiReductionI .minsi [1] S8
      (select (cmpf .oeq l (broadcastTo S8x6 (top l) broadcasts_S8x1_S8x6)) (iota .tc S8x6 32 [1] iota_S8x6_d1_w32)
        (broadcast S8x6 6#32)) 2147483647#32 reduces_S8x6_S8 rfl) shapeCasts_S8_S8x1) broadcasts_S8x1_S8x6)

/-- The rows without their marked entries. -/
def rest (l : FVec Ideal S8x6 .f32) : FVec Ideal S8x6 .f32 :=
  select (mark l) (broadcast S8x6 (Scalar.ofBits .f32 0xFF800000#32)) l

/-- The second greatest entry's weight against the greatest. -/
def ratio (l : FVec Ideal S8x6 .f32) : FVec Ideal S8x1 .f32 := exp (subf (top (rest l)) (top l))

/-- The logits as the body computes them. -/
def logits (x : FVec Ideal S8x16x256 .f32) (tc ts : FVec Ideal S16x8 .f32) (wg : FVec Ideal S8x6 .f32) : FVec Ideal S8x6 .f32 :=
  cat (k1_pay3 (F := Ideal) (View.ld x r1_0) (View.ld tc r1_1) (View.ld ts r1_1) (View.ld wg r1_2))
    (k1_pay3 (F := Ideal) (View.ld x r1_3) (View.ld tc r1_1) (View.ld ts r1_1) (View.ld wg r1_2))
    (k1_pay3 (F := Ideal) (View.ld x r1_4) (View.ld tc r1_1) (View.ld ts r1_1) (View.ld wg r1_2))
    (k1_pay3 (F := Ideal) (View.ld x r1_5) (View.ld tc r1_1) (View.ld ts r1_1) (View.ld wg r1_2))
    (k1_pay3 (F := Ideal) (View.ld x r1_6) (View.ld tc r1_1) (View.ld ts r1_1) (View.ld wg r1_2))
    (k1_pay3 (F := Ideal) (View.ld x r1_7) (View.ld tc r1_1) (View.ld ts r1_1) (View.ld wg r1_2))
    (k1_pay3 (F := Ideal) (View.ld x r1_8) (View.ld tc r1_1) (View.ld ts r1_1) (View.ld wg r1_2))
    (k1_pay3 (F := Ideal) (View.ld x r1_9) (View.ld tc r1_1) (View.ld ts r1_1) (View.ld wg r1_2))

theorem mark1_eq (x : FVec Ideal S8x16x256 .f32) (tc ts : FVec Ideal S16x8 .f32) (wg : FVec Ideal S8x6 .f32) :
    k1_pay33 (F := Ideal) x tc ts wg = mark (logits x tc ts wg) := rfl

theorem mark2_eq (x : FVec Ideal S8x16x256 .f32) (tc ts : FVec Ideal S16x8 .f32) (wg : FVec Ideal S8x6 .f32) :
    k1_pay34 (F := Ideal) x tc ts wg = mark (rest (logits x tc ts wg)) := rfl

theorem ratio_eq (x : FVec Ideal S8x16x256 .f32) (tc ts : FVec Ideal S16x8 .f32) (wg : FVec Ideal S8x6 .f32) :
    k1_pay35 (F := Ideal) x tc ts wg = ratio (logits x tc ts wg) := rfl

theorem denom_eq (x : FVec Ideal S8x16x256 .f32) (tc ts : FVec Ideal S16x8 .f32) (wg : FVec Ideal S8x6 .f32) :
    k1_pay36 (F := Ideal) x tc ts wg = addf (broadcast S8x1 (Scalar.ofBits .f32 0x3F800000#32)) (ratio (logits x tc ts wg)) := rfl

theorem logits_apply (x : FVec Ideal S8x16x256 .f32) (tc ts : FVec Ideal S16x8 .f32) (wg : FVec Ideal S8x6 .f32) (b : Fin 8) (e : Fin 6) :
    logits x tc ts wg (ix2 b e)
      = logit (fun s d => x (ix3 b s d)) (fun s f => tc (ix2 s f)) (fun s f => ts (ix2 s f)) (fun f e => wg (ix2 f e)) e := by
  unfold logits
  fin_cases b
  · pointwise [cat, k1_pay3, logit, amp, part]
  · pointwise [cat, k1_pay3, logit, amp, part]
  · pointwise [cat, k1_pay3, logit, amp, part]
  · pointwise [cat, k1_pay3, logit, amp, part]
  · pointwise [cat, k1_pay3, logit, amp, part]
  · pointwise [cat, k1_pay3, logit, amp, part]
  · pointwise [cat, k1_pay3, logit, amp, part]
  · pointwise [cat, k1_pay3, logit, amp, part]

theorem bits_bot : Ideal.ofBits .f32 0xFF800000#32 = ⊥ := by
  simp [Ideal.ofBits, Ideal.ieee]

theorem top_apply (l : FVec Ideal S8x6 .f32) (b : Fin 8) (k : Fin 6) (h : First (fun j => l (ix2 b j)) k) :
    top l (ix2 b 0) = l (ix2 b k) := by
  have : top l (ix2 b 0) = Finset.fold max (Ideal.ofBits .f32 0xFF800000#32) (fun j => l (ix2 b j)) Finset.univ := by
    pointwise [top]
  rw [this, bits_bot]
  exact fold_max h

/-- The least of the marked positions, where the first marked one is `k`. -/
theorem least_mark : ∀ (p : Fin 6 → Bool) (k : Fin 6), p k = true → (∀ j, j < k → p j = false) →
    Finset.fold IntOp.minsi (2147483647#32) (fun x : Fin 6 => if p x = true then BitVec.ofNat 32 x.val else 6#32) Finset.univ
      = BitVec.ofNat 32 k.val := by
  decide +kernel

theorem same_position : ∀ e k : Fin 6,
    IntOp.cmpi .eq (BitVec.ofNat 32 e.val) (BitVec.ofNat 32 k.val) = BitVec.ofBool (decide (e = k)) := by
  decide

theorem mark_apply (l : FVec Ideal S8x6 .f32) (b : Fin 8) (k : Fin 6) (h : First (fun j => l (ix2 b j)) k) (e : Fin 6) :
    mark l (ix2 b e) = BitVec.ofBool (decide (e = k)) := by
  have h0 : mark l (ix2 b e) = IntOp.cmpi .eq (BitVec.ofNat 32 e.val) (Finset.fold IntOp.minsi (2147483647#32)
      (fun x : Fin 6 => if l (ix2 b x) = top l (ix2 b 0) then BitVec.ofNat 32 x.val else 6#32) Finset.univ) := by
    pointwise [mark]
  have h1 := least_mark (fun x => decide (l (ix2 b x) = l (ix2 b k))) k (by simp) fun j hj => by
    simpa using (h.lt j hj).ne
  simp only [decide_eq_true_eq] at h1
  rw [h0, top_apply l b k h, h1]
  exact same_position e k

/-- A choice by a mark. -/
theorem select_mark (e k : Fin 6) (u v : EReal) :
    Scalar.select (BitVec.ofBool (decide (e = k))) u v = if e = k then u else v := by
  by_cases h : e = k <;> simp [h, Scalar.select]

theorem rest_apply (l : FVec Ideal S8x6 .f32) (b : Fin 8) (k : Fin 6) (h : First (fun j => l (ix2 b j)) k) :
    (fun e => rest l (ix2 b e)) = drop (fun j => l (ix2 b j)) k := by
  funext e
  have : rest l (ix2 b e) = Scalar.select (mark l (ix2 b e)) (Ideal.ofBits .f32 0xFF800000#32) (l (ix2 b e)) := by
    pointwise [rest]
  rw [this, mark_apply l b k h, bits_bot]
  by_cases hk : e = k <;> simp [drop, hk, Scalar.select]

theorem gate_apply (m1 m2 : IVec S8x6 1) (r d : FVec Ideal S8x1 .f32) (b : Fin 8) (e : Fin 6) :
    k1_pay1 (F := Ideal) m1 m2 r d (ix2 b e)
      = Scalar.select (m1 (ix2 b e)) (Ideal.div 1 (d (ix2 b 0))) 0
        + Scalar.select (m2 (ix2 b e)) (Ideal.div (r (ix2 b 0)) (1 + r (ix2 b 0))) 0 := by
  pointwise [k1_pay1]

theorem load_apply (m1 m2 : IVec S8x6 1) (r d : FVec Ideal S8x1 .f32) (e : Fin 6) :
    k1_pay2 (F := Ideal) m1 m2 r d (ix2 0 e)
      = Finset.fold IntOp.addi (0#32) (fun b : Fin 8 => BitVec.setWidth 32 (BitVec.ofBool (decide
          (0 < k1_pay1 (F := Ideal) m1 m2 r d (ix2 b e))))) Finset.univ := by
  pointwise [k1_pay2]

/-- The gates that the second call stores. -/
theorem gates_apply (x : FVec Ideal S8x16x256 .f32) (tc ts : FVec Ideal S16x8 .f32) (wg : FVec Ideal S8x6 .f32) (b : Fin 8)
    (L : Fin 6 → EReal) (hL : ∀ e, logit (fun s d => x (ix3 b s d)) (fun s f => tc (ix2 s f)) (fun s f => ts (ix2 s f))
      (fun f e => wg (ix2 f e)) e = L e) (hr : ∀ e, IsReal (L e)) (k₁ k₂ : Fin 6) (h₁ : First L k₁) (h₂ : First (drop L k₁) k₂)
    (e : Fin 6) :
    k1_pay1 (F := Ideal) (k1_pay33 (F := Ideal) x tc ts wg) (k1_pay34 (F := Ideal) x tc ts wg) (k1_pay35 (F := Ideal) x tc ts wg) (k1_pay36 (F := Ideal) x tc ts wg) (ix2 b e)
      = gate L k₁ k₂ e := by
  have hl : (fun e => logits x tc ts wg (ix2 b e)) = L := funext fun e => (logits_apply x tc ts wg b e).trans (hL e)
  rw [gate_apply, mark1_eq, mark2_eq, ratio_eq, denom_eq]
  generalize logits x tc ts wg = l at hl
  subst hl
  have hne := First.ne hr h₂
  have h₂' := h₂
  rw [← rest_apply l b k₁ h₁] at h₂'
  have hr2 : rest l (ix2 b k₂) = l (ix2 b k₂) := (congrFun (rest_apply l b k₁ h₁) k₂).trans (drop_ne hne)
  have hrat : ratio l (ix2 b 0) = Ideal.exp (l (ix2 b k₂) - l (ix2 b k₁)) := by
    have : ratio l (ix2 b 0) = Ideal.exp (top (rest l) (ix2 b 0) - top l (ix2 b 0)) := by
      pointwise [ratio]
    rw [this, top_apply l b k₁ h₁, top_apply (rest l) b k₂ h₂', hr2]
  have hden : (addf (broadcast S8x1 (Scalar.ofBits .f32 0x3F800000#32)) (ratio l) : FVec Ideal S8x1 .f32) (ix2 b 0)
      = 1 + ratio l (ix2 b 0) := by
    pointwise []
  rw [hden, hrat, mark_apply l b k₁ h₁, mark_apply (rest l) b k₂ h₂']
  unfold gate
  rw [select_mark, select_mark]

end Cert.KernelIdeal.Gat

end
-- ==== Proof.RefLayers.lean ====
module

public import proofs.«01_k».proof.Proof.Layer
public import proofs.«01_k».proof.Proof.Gen.ReferenceIdeal.Run
public import Idealize.ShloMosaic.Lib.Pointwise

/-! # The layers of the reference, read at an index

Each of the five layers is written as a function of the array below it, its weight, its bias and its
two normalisation vectors.  Read at image `n`, channel `o`, row `i` and column `j` it is the layer of
`Cert.Gate.refLayer`. -/

@[expose] public section

noncomputable section

namespace Cert.ReferenceIdeal.Lay

open Idealize.ShloMosaic Cert.ReferenceIdeal Cert.ReferenceIdeal.Gen Cert.Gate

/-- A weight array as a function of output channel, input channel, row tap and column tap. -/
def wt (w : FVec Ideal S256x256x2x2 .f32) : Fin 256 → Fin 256 → Fin 2 → Fin 2 → EReal :=
  fun o c p q => w (ix4 o c p q)

/-- A channel vector as a function of the channel. -/
def vec (v : FVec Ideal S256 .f32) : Fin 256 → EReal := fun o => v (ix1 o)

/-- The normalisation's constant factor. -/
abbrev κ : EReal := Ideal.ofBits .f32 0x3F7FFFAC#32

/-- Layer 1 of the reference. -/
def lay1 (h : FVec Ideal S128x256x32x32 .f32) (w : FVec Ideal S256x256x2x2 .f32)
    (b g be : FVec Ideal S256 .f32) : FVec Ideal S128x256x16x16 .f32 :=
  maximumf (addf (mulf (mulf (addf (addf (addf (addf (addf
      (broadcastInDim S128x256x16x16 ![] bcast_S_S128x256x16x16 (constant S_ .f32 0x00000000#32))
      (transpose S128x256x16x16 [1, 0, 2, 3] (Host.dotGeneral dot_S256x256_S128x256x16x16_S256x128x16x16_1_1_0_023_n_n none
        (shapeCast S256x256 (extractStridedSlice S256x256x1x1 ![0, 0, 0, 0] w slices_S256x256x2x2_S256x256x1x1_0_0_0_0) shapeCasts_S256x256x1x1_S256x256)
        (Host.slice S128x256x16x16 ![0, 0, 0, 0] ![1, 1, 2, 2] h slicesBy_S128x256x32x32_S128x256x16x16_0s1_0s1_0s2_0s2)) transposes_S256x128x16x16_S128x256x16x16_1_0_2_3))
      (transpose S128x256x16x16 [1, 0, 2, 3] (Host.dotGeneral dot_S256x256_S128x256x16x16_S256x128x16x16_1_1_0_023_n_n none
        (shapeCast S256x256 (extractStridedSlice S256x256x1x1 ![0, 0, 0, 1] w slices_S256x256x2x2_S256x256x1x1_0_0_0_1) shapeCasts_S256x256x1x1_S256x256)
        (Host.slice S128x256x16x16 ![0, 0, 0, 1] ![1, 1, 2, 2] h slicesBy_S128x256x32x32_S128x256x16x16_0s1_0s1_0s2_1s2)) transposes_S256x128x16x16_S128x256x16x16_1_0_2_3))
      (transpose S128x256x16x16 [1, 0, 2, 3] (Host.dotGeneral dot_S256x256_S128x256x16x16_S256x128x16x16_1_1_0_023_n_n none
        (shapeCast S256x256 (extractStridedSlice S256x256x1x1 ![0, 0, 1, 0] w slices_S256x256x2x2_S256x256x1x1_0_0_1_0) shapeCasts_S256x256x1x1_S256x256)
        (Host.slice S128x256x16x16 ![0, 0, 1, 0] ![1, 1, 2, 2] h slicesBy_S128x256x32x32_S128x256x16x16_0s1_0s1_1s2_0s2)) transposes_S256x128x16x16_S128x256x16x16_1_0_2_3))
      (transpose S128x256x16x16 [1, 0, 2, 3] (Host.dotGeneral dot_S256x256_S128x256x16x16_S256x128x16x16_1_1_0_023_n_n none
        (shapeCast S256x256 (extractStridedSlice S256x256x1x1 ![0, 0, 1, 1] w slices_S256x256x2x2_S256x256x1x1_0_0_1_1) shapeCasts_S256x256x1x1_S256x256)
        (Host.slice S128x256x16x16 ![0, 0, 1, 1] ![1, 1, 2, 2] h slicesBy_S128x256x32x32_S128x256x16x16_0s1_0s1_1s2_1s2)) transposes_S256x128x16x16_S128x256x16x16_1_0_2_3))
      (broadcastInDim S128x256x16x16 ![0, 1, 2, 3] bcast_S1x256x1x1_S128x256x16x16_0_1_2_3 (broadcastInDim S1x256x1x1 ![1] bcast_S256_S1x256x1x1_1 b)))
      (broadcastInDim S128x256x16x16 ![] bcast_S_S128x256x16x16 (constant S_ .f32 0x3F7FFFAC#32)))
      (broadcastInDim S128x256x16x16 ![0, 1, 2, 3] bcast_S1x256x1x1_S128x256x16x16_0_1_2_3 (broadcastInDim S1x256x1x1 ![1] bcast_S256_S1x256x1x1_1 g)))
      (broadcastInDim S128x256x16x16 ![0, 1, 2, 3] bcast_S1x256x1x1_S128x256x16x16_0_1_2_3 (broadcastInDim S1x256x1x1 ![1] bcast_S256_S1x256x1x1_1 be)))
      (broadcastInDim S128x256x16x16 ![] bcast_S_S128x256x16x16 (constant S_ .f32 0x00000000#32))

/-- Layer 1 of the reference at an index. -/
theorem lay1_apply (h : FVec Ideal S128x256x32x32 .f32) (w : FVec Ideal S256x256x2x2 .f32)
    (b g be : FVec Ideal S256 .f32) (H : Img)
    (hh : ∀ (n : Fin 128) (c : Fin 256) (i j : Fin 32), h (ix4 n c i j) = H n i j c)
    (n : Fin 128) (o : Fin 256) (i j : Fin 16) :
    lay1 h w b g be (ix4 n o i j) = refLayer κ (wt w) (vec b) (vec g) (vec be) H n i j o := by
  rw [refLayer]
  pointwise [lay1]
  simp only [hh, wt, vec, Ideal.ofBits_zero_f32, zero_add, Nat.add_comm 1]

/-- Layer 2 of the reference. -/
def lay2 (h : FVec Ideal S128x256x16x16 .f32) (w : FVec Ideal S256x256x2x2 .f32)
    (b g be : FVec Ideal S256 .f32) : FVec Ideal S128x256x8x8 .f32 :=
  maximumf (addf (mulf (mulf (addf (addf (addf (addf (addf
      (broadcastInDim S128x256x8x8 ![] bcast_S_S128x256x8x8 (constant S_ .f32 0x00000000#32))
      (transpose S128x256x8x8 [1, 0, 2, 3] (Host.dotGeneral dot_S256x256_S128x256x8x8_S256x128x8x8_1_1_0_023_n_n none
        (shapeCast S256x256 (extractStridedSlice S256x256x1x1 ![0, 0, 0, 0] w slices_S256x256x2x2_S256x256x1x1_0_0_0_0) shapeCasts_S256x256x1x1_S256x256)
        (Host.slice S128x256x8x8 ![0, 0, 0, 0] ![1, 1, 2, 2] h slicesBy_S128x256x16x16_S128x256x8x8_0s1_0s1_0s2_0s2)) transposes_S256x128x8x8_S128x256x8x8_1_0_2_3))
      (transpose S128x256x8x8 [1, 0, 2, 3] (Host.dotGeneral dot_S256x256_S128x256x8x8_S256x128x8x8_1_1_0_023_n_n none
        (shapeCast S256x256 (extractStridedSlice S256x256x1x1 ![0, 0, 0, 1] w slices_S256x256x2x2_S256x256x1x1_0_0_0_1) shapeCasts_S256x256x1x1_S256x256)
        (Host.slice S128x256x8x8 ![0, 0, 0, 1] ![1, 1, 2, 2] h slicesBy_S128x256x16x16_S128x256x8x8_0s1_0s1_0s2_1s2)) transposes_S256x128x8x8_S128x256x8x8_1_0_2_3))
      (transpose S128x256x8x8 [1, 0, 2, 3] (Host.dotGeneral dot_S256x256_S128x256x8x8_S256x128x8x8_1_1_0_023_n_n none
        (shapeCast S256x256 (extractStridedSlice S256x256x1x1 ![0, 0, 1, 0] w slices_S256x256x2x2_S256x256x1x1_0_0_1_0) shapeCasts_S256x256x1x1_S256x256)
        (Host.slice S128x256x8x8 ![0, 0, 1, 0] ![1, 1, 2, 2] h slicesBy_S128x256x16x16_S128x256x8x8_0s1_0s1_1s2_0s2)) transposes_S256x128x8x8_S128x256x8x8_1_0_2_3))
      (transpose S128x256x8x8 [1, 0, 2, 3] (Host.dotGeneral dot_S256x256_S128x256x8x8_S256x128x8x8_1_1_0_023_n_n none
        (shapeCast S256x256 (extractStridedSlice S256x256x1x1 ![0, 0, 1, 1] w slices_S256x256x2x2_S256x256x1x1_0_0_1_1) shapeCasts_S256x256x1x1_S256x256)
        (Host.slice S128x256x8x8 ![0, 0, 1, 1] ![1, 1, 2, 2] h slicesBy_S128x256x16x16_S128x256x8x8_0s1_0s1_1s2_1s2)) transposes_S256x128x8x8_S128x256x8x8_1_0_2_3))
      (broadcastInDim S128x256x8x8 ![0, 1, 2, 3] bcast_S1x256x1x1_S128x256x8x8_0_1_2_3 (broadcastInDim S1x256x1x1 ![1] bcast_S256_S1x256x1x1_1 b)))
      (broadcastInDim S128x256x8x8 ![] bcast_S_S128x256x8x8 (constant S_ .f32 0x3F7FFFAC#32)))
      (broadcastInDim S128x256x8x8 ![0, 1, 2, 3] bcast_S1x256x1x1_S128x256x8x8_0_1_2_3 (broadcastInDim S1x256x1x1 ![1] bcast_S256_S1x256x1x1_1 g)))
      (broadcastInDim S128x256x8x8 ![0, 1, 2, 3] bcast_S1x256x1x1_S128x256x8x8_0_1_2_3 (broadcastInDim S1x256x1x1 ![1] bcast_S256_S1x256x1x1_1 be)))
      (broadcastInDim S128x256x8x8 ![] bcast_S_S128x256x8x8 (constant S_ .f32 0x00000000#32))

/-- Layer 2 of the reference at an index. -/
theorem lay2_apply (h : FVec Ideal S128x256x16x16 .f32) (w : FVec Ideal S256x256x2x2 .f32)
    (b g be : FVec Ideal S256 .f32) (H : Img)
    (hh : ∀ (n : Fin 128) (c : Fin 256) (i j : Fin 16), h (ix4 n c i j) = H n i j c)
    (n : Fin 128) (o : Fin 256) (i j : Fin 8) :
    lay2 h w b g be (ix4 n o i j) = refLayer κ (wt w) (vec b) (vec g) (vec be) H n i j o := by
  rw [refLayer]
  pointwise [lay2]
  simp only [hh, wt, vec, Ideal.ofBits_zero_f32, zero_add, Nat.add_comm 1]

/-- Layer 3 of the reference. -/
def lay3 (h : FVec Ideal S128x256x8x8 .f32) (w : FVec Ideal S256x256x2x2 .f32)
    (b g be : FVec Ideal S256 .f32) : FVec Ideal S128x256x4x4 .f32 :=
  maximumf (addf (mulf (mulf (addf (addf (addf (addf (addf
      (broadcastInDim S128x256x4x4 ![] bcast_S_S128x256x4x4 (constant S_ .f32 0x00000000#32))
      (transpose S128x256x4x4 [1, 0, 2, 3] (Host.dotGeneral dot_S256x256_S128x256x4x4_S256x128x4x4_1_1_0_023_n_n none
        (shapeCast S256x256 (extractStridedSlice S256x256x1x1 ![0, 0, 0, 0] w slices_S256x256x2x2_S256x256x1x1_0_0_0_0) shapeCasts_S256x256x1x1_S256x256)
        (Host.slice S128x256x4x4 ![0, 0, 0, 0] ![1, 1, 2, 2] h slicesBy_S128x256x8x8_S128x256x4x4_0s1_0s1_0s2_0s2)) transposes_S256x128x4x4_S128x256x4x4_1_0_2_3))
      (transpose S128x256x4x4 [1, 0, 2, 3] (Host.dotGeneral dot_S256x256_S128x256x4x4_S256x128x4x4_1_1_0_023_n_n none
        (shapeCast S256x256 (extractStridedSlice S256x256x1x1 ![0, 0, 0, 1] w slices_S256x256x2x2_S256x256x1x1_0_0_0_1) shapeCasts_S256x256x1x1_S256x256)
        (Host.slice S128x256x4x4 ![0, 0, 0, 1] ![1, 1, 2, 2] h slicesBy_S128x256x8x8_S128x256x4x4_0s1_0s1_0s2_1s2)) transposes_S256x128x4x4_S128x256x4x4_1_0_2_3))
      (transpose S128x256x4x4 [1, 0, 2, 3] (Host.dotGeneral dot_S256x256_S128x256x4x4_S256x128x4x4_1_1_0_023_n_n none
        (shapeCast S256x256 (extractStridedSlice S256x256x1x1 ![0, 0, 1, 0] w slices_S256x256x2x2_S256x256x1x1_0_0_1_0) shapeCasts_S256x256x1x1_S256x256)
        (Host.slice S128x256x4x4 ![0, 0, 1, 0] ![1, 1, 2, 2] h slicesBy_S128x256x8x8_S128x256x4x4_0s1_0s1_1s2_0s2)) transposes_S256x128x4x4_S128x256x4x4_1_0_2_3))
      (transpose S128x256x4x4 [1, 0, 2, 3] (Host.dotGeneral dot_S256x256_S128x256x4x4_S256x128x4x4_1_1_0_023_n_n none
        (shapeCast S256x256 (extractStridedSlice S256x256x1x1 ![0, 0, 1, 1] w slices_S256x256x2x2_S256x256x1x1_0_0_1_1) shapeCasts_S256x256x1x1_S256x256)
        (Host.slice S128x256x4x4 ![0, 0, 1, 1] ![1, 1, 2, 2] h slicesBy_S128x256x8x8_S128x256x4x4_0s1_0s1_1s2_1s2)) transposes_S256x128x4x4_S128x256x4x4_1_0_2_3))
      (broadcastInDim S128x256x4x4 ![0, 1, 2, 3] bcast_S1x256x1x1_S128x256x4x4_0_1_2_3 (broadcastInDim S1x256x1x1 ![1] bcast_S256_S1x256x1x1_1 b)))
      (broadcastInDim S128x256x4x4 ![] bcast_S_S128x256x4x4 (constant S_ .f32 0x3F7FFFAC#32)))
      (broadcastInDim S128x256x4x4 ![0, 1, 2, 3] bcast_S1x256x1x1_S128x256x4x4_0_1_2_3 (broadcastInDim S1x256x1x1 ![1] bcast_S256_S1x256x1x1_1 g)))
      (broadcastInDim S128x256x4x4 ![0, 1, 2, 3] bcast_S1x256x1x1_S128x256x4x4_0_1_2_3 (broadcastInDim S1x256x1x1 ![1] bcast_S256_S1x256x1x1_1 be)))
      (broadcastInDim S128x256x4x4 ![] bcast_S_S128x256x4x4 (constant S_ .f32 0x00000000#32))

/-- Layer 3 of the reference at an index. -/
theorem lay3_apply (h : FVec Ideal S128x256x8x8 .f32) (w : FVec Ideal S256x256x2x2 .f32)
    (b g be : FVec Ideal S256 .f32) (H : Img)
    (hh : ∀ (n : Fin 128) (c : Fin 256) (i j : Fin 8), h (ix4 n c i j) = H n i j c)
    (n : Fin 128) (o : Fin 256) (i j : Fin 4) :
    lay3 h w b g be (ix4 n o i j) = refLayer κ (wt w) (vec b) (vec g) (vec be) H n i j o := by
  rw [refLayer]
  pointwise [lay3]
  simp only [hh, wt, vec, Ideal.ofBits_zero_f32, zero_add, Nat.add_comm 1]

/-- Layer 4 of the reference. -/
def lay4 (h : FVec Ideal S128x256x4x4 .f32) (w : FVec Ideal S256x256x2x2 .f32)
    (b g be : FVec Ideal S256 .f32) : FVec Ideal S128x256x2x2 .f32 :=
  maximumf (addf (mulf (mulf (addf (addf (addf (addf (addf
      (broadcastInDim S128x256x2x2 ![] bcast_S_S128x256x2x2 (constant S_ .f32 0x00000000#32))
      (transpose S128x256x2x2 [1, 0, 2, 3] (Host.dotGeneral dot_S256x256_S128x256x2x2_S256x128x2x2_1_1_0_023_n_n none
        (shapeCast S256x256 (extractStridedSlice S256x256x1x1 ![0, 0, 0, 0] w slices_S256x256x2x2_S256x256x1x1_0_0_0_0) shapeCasts_S256x256x1x1_S256x256)
        (Host.slice S128x256x2x2 ![0, 0, 0, 0] ![1, 1, 2, 2] h slicesBy_S128x256x4x4_S128x256x2x2_0s1_0s1_0s2_0s2)) transposes_S256x128x2x2_S128x256x2x2_1_0_2_3))
      (transpose S128x256x2x2 [1, 0, 2, 3] (Host.dotGeneral dot_S256x256_S128x256x2x2_S256x128x2x2_1_1_0_023_n_n none
        (shapeCast S256x256 (extractStridedSlice S256x256x1x1 ![0, 0, 0, 1] w slices_S256x256x2x2_S256x256x1x1_0_0_0_1) shapeCasts_S256x256x1x1_S256x256)
        (Host.slice S128x256x2x2 ![0, 0, 0, 1] ![1, 1, 2, 2] h slicesBy_S128x256x4x4_S128x256x2x2_0s1_0s1_0s2_1s2)) transposes_S256x128x2x2_S128x256x2x2_1_0_2_3))
      (transpose S128x256x2x2 [1, 0, 2, 3] (Host.dotGeneral dot_S256x256_S128x256x2x2_S256x128x2x2_1_1_0_023_n_n none
        (shapeCast S256x256 (extractStridedSlice S256x256x1x1 ![0, 0, 1, 0] w slices_S256x256x2x2_S256x256x1x1_0_0_1_0) shapeCasts_S256x256x1x1_S256x256)
        (Host.slice S128x256x2x2 ![0, 0, 1, 0] ![1, 1, 2, 2] h slicesBy_S128x256x4x4_S128x256x2x2_0s1_0s1_1s2_0s2)) transposes_S256x128x2x2_S128x256x2x2_1_0_2_3))
      (transpose S128x256x2x2 [1, 0, 2, 3] (Host.dotGeneral dot_S256x256_S128x256x2x2_S256x128x2x2_1_1_0_023_n_n none
        (shapeCast S256x256 (extractStridedSlice S256x256x1x1 ![0, 0, 1, 1] w slices_S256x256x2x2_S256x256x1x1_0_0_1_1) shapeCasts_S256x256x1x1_S256x256)
        (Host.slice S128x256x2x2 ![0, 0, 1, 1] ![1, 1, 2, 2] h slicesBy_S128x256x4x4_S128x256x2x2_0s1_0s1_1s2_1s2)) transposes_S256x128x2x2_S128x256x2x2_1_0_2_3))
      (broadcastInDim S128x256x2x2 ![0, 1, 2, 3] bcast_S1x256x1x1_S128x256x2x2_0_1_2_3 (broadcastInDim S1x256x1x1 ![1] bcast_S256_S1x256x1x1_1 b)))
      (broadcastInDim S128x256x2x2 ![] bcast_S_S128x256x2x2 (constant S_ .f32 0x3F7FFFAC#32)))
      (broadcastInDim S128x256x2x2 ![0, 1, 2, 3] bcast_S1x256x1x1_S128x256x2x2_0_1_2_3 (broadcastInDim S1x256x1x1 ![1] bcast_S256_S1x256x1x1_1 g)))
      (broadcastInDim S128x256x2x2 ![0, 1, 2, 3] bcast_S1x256x1x1_S128x256x2x2_0_1_2_3 (broadcastInDim S1x256x1x1 ![1] bcast_S256_S1x256x1x1_1 be)))
      (broadcastInDim S128x256x2x2 ![] bcast_S_S128x256x2x2 (constant S_ .f32 0x00000000#32))

/-- Layer 4 of the reference at an index. -/
theorem lay4_apply (h : FVec Ideal S128x256x4x4 .f32) (w : FVec Ideal S256x256x2x2 .f32)
    (b g be : FVec Ideal S256 .f32) (H : Img)
    (hh : ∀ (n : Fin 128) (c : Fin 256) (i j : Fin 4), h (ix4 n c i j) = H n i j c)
    (n : Fin 128) (o : Fin 256) (i j : Fin 2) :
    lay4 h w b g be (ix4 n o i j) = refLayer κ (wt w) (vec b) (vec g) (vec be) H n i j o := by
  rw [refLayer]
  pointwise [lay4]
  simp only [hh, wt, vec, Ideal.ofBits_zero_f32, zero_add, Nat.add_comm 1]

/-- Layer 5 of the reference. -/
def lay5 (h : FVec Ideal S128x256x2x2 .f32) (w : FVec Ideal S256x256x2x2 .f32)
    (b g be : FVec Ideal S256 .f32) : FVec Ideal S128x256x1x1 .f32 :=
  maximumf (addf (mulf (mulf (addf (addf (addf (addf (addf
      (broadcastInDim S128x256x1x1 ![] bcast_S_S128x256x1x1 (constant S_ .f32 0x00000000#32))
      (transpose S128x256x1x1 [1, 0, 2, 3] (Host.dotGeneral dot_S256x256_S128x256x1x1_S256x128x1x1_1_1_0_023_n_n none
        (shapeCast S256x256 (extractStridedSlice S256x256x1x1 ![0, 0, 0, 0] w slices_S256x256x2x2_S256x256x1x1_0_0_0_0) shapeCasts_S256x256x1x1_S256x256)
        (Host.slice S128x256x1x1 ![0, 0, 0, 0] ![1, 1, 2, 2] h slicesBy_S128x256x2x2_S128x256x1x1_0s1_0s1_0s2_0s2)) transposes_S256x128x1x1_S128x256x1x1_1_0_2_3))
      (transpose S128x256x1x1 [1, 0, 2, 3] (Host.dotGeneral dot_S256x256_S128x256x1x1_S256x128x1x1_1_1_0_023_n_n none
        (shapeCast S256x256 (extractStridedSlice S256x256x1x1 ![0, 0, 0, 1] w slices_S256x256x2x2_S256x256x1x1_0_0_0_1) shapeCasts_S256x256x1x1_S256x256)
        (Host.slice S128x256x1x1 ![0, 0, 0, 1] ![1, 1, 2, 2] h slicesBy_S128x256x2x2_S128x256x1x1_0s1_0s1_0s2_1s2)) transposes_S256x128x1x1_S128x256x1x1_1_0_2_3))
      (transpose S128x256x1x1 [1, 0, 2, 3] (Host.dotGeneral dot_S256x256_S128x256x1x1_S256x128x1x1_1_1_0_023_n_n none
        (shapeCast S256x256 (extractStridedSlice S256x256x1x1 ![0, 0, 1, 0] w slices_S256x256x2x2_S256x256x1x1_0_0_1_0) shapeCasts_S256x256x1x1_S256x256)
        (Host.slice S128x256x1x1 ![0, 0, 1, 0] ![1, 1, 2, 2] h slicesBy_S128x256x2x2_S128x256x1x1_0s1_0s1_1s2_0s2)) transposes_S256x128x1x1_S128x256x1x1_1_0_2_3))
      (transpose S128x256x1x1 [1, 0, 2, 3] (Host.dotGeneral dot_S256x256_S128x256x1x1_S256x128x1x1_1_1_0_023_n_n none
        (shapeCast S256x256 (extractStridedSlice S256x256x1x1 ![0, 0, 1, 1] w slices_S256x256x2x2_S256x256x1x1_0_0_1_1) shapeCasts_S256x256x1x1_S256x256)
        (Host.slice S128x256x1x1 ![0, 0, 1, 1] ![1, 1, 2, 2] h slicesBy_S128x256x2x2_S128x256x1x1_0s1_0s1_1s2_1s2)) transposes_S256x128x1x1_S128x256x1x1_1_0_2_3))
      (broadcastInDim S128x256x1x1 ![0, 1, 2, 3] bcast_S1x256x1x1_S128x256x1x1_0_1_2_3 (broadcastInDim S1x256x1x1 ![1] bcast_S256_S1x256x1x1_1 b)))
      (broadcastInDim S128x256x1x1 ![] bcast_S_S128x256x1x1 (constant S_ .f32 0x3F7FFFAC#32)))
      (broadcastInDim S128x256x1x1 ![0, 1, 2, 3] bcast_S1x256x1x1_S128x256x1x1_0_1_2_3 (broadcastInDim S1x256x1x1 ![1] bcast_S256_S1x256x1x1_1 g)))
      (broadcastInDim S128x256x1x1 ![0, 1, 2, 3] bcast_S1x256x1x1_S128x256x1x1_0_1_2_3 (broadcastInDim S1x256x1x1 ![1] bcast_S256_S1x256x1x1_1 be)))
      (broadcastInDim S128x256x1x1 ![] bcast_S_S128x256x1x1 (constant S_ .f32 0x00000000#32))

/-- Layer 5 of the reference at an index. -/
theorem lay5_apply (h : FVec Ideal S128x256x2x2 .f32) (w : FVec Ideal S256x256x2x2 .f32)
    (b g be : FVec Ideal S256 .f32) (H : Img)
    (hh : ∀ (n : Fin 128) (c : Fin 256) (i j : Fin 2), h (ix4 n c i j) = H n i j c)
    (n : Fin 128) (o : Fin 256) (i j : Fin 1) :
    lay5 h w b g be (ix4 n o i j) = refLayer κ (wt w) (vec b) (vec g) (vec be) H n i j o := by
  rw [refLayer]
  pointwise [lay5]
  simp only [hh, wt, vec, Ideal.ofBits_zero_f32, zero_add, Nat.add_comm 1]
  rfl

end Cert.ReferenceIdeal.Lay

end
-- ==== Proof.RefGate.lean ====
module

public import proofs.«01_k».proof.Proof.Choice
public import proofs.«01_k».proof.Proof.Gen.ReferenceIdeal.Run
public import Idealize.ShloMosaic.Lib.Pointwise
public import Idealize.ShloMosaic.Lib.Routing.OpsPair
public import Idealize.ShloMosaic.Lib.Routing.OpsSet

/-! The reference's gates from its logits: the top entries and their positions, the softmax over the first two, and the
    scatter of the two weights into a row of zeros. -/

@[expose] public section

set_option maxRecDepth 16384

noncomputable section

namespace Cert.ReferenceIdeal.Gat

open Idealize.ShloMosaic Cert.ReferenceIdeal Cert.ReferenceIdeal.Gen Cert.ReferenceIdeal.Value Cert.Gate

/-- The two greatest entries of each row. -/
def vals (w : FVec Ideal S8x6 .f32) : FVec Ideal S8x2 .f32 :=
  extractStridedSlice S8x2 ![0, 0] ((Host.topK S8x3 1 (FloatOps.cmpfTotal .gt) w sliceFits_S8x6_S8x3).1) slices_S8x3_S8x2_0_0

/-- Their positions. -/
def poss (w : FVec Ideal S8x6 .f32) : IVec S8x2 32 :=
  extractStridedSlice S8x2 ![0, 0] ((Host.topK S8x3 1 (FloatOps.cmpfTotal .gt) w sliceFits_S8x6_S8x3).2) slices_S8x3_S8x2_0_0

/-- The exponentials of the two, their maximum taken off. -/
def exps (v : FVec Ideal S8x2 .f32) : FVec Ideal S8x2 .f32 :=
  Host.exp (subf v (broadcastInDim S8x2 ![0, 1] bcast_S8x1_S8x2_0_1 (broadcastInDim S8x1 ![0] bcast_S8_S8x1_0
    (maximumf (broadcastInDim S8 ![] bcast_S_S8 (constant S_ .f32 0xFF800000#32))
      (Host.reduce FloatOps.maximumf v (constant S_ .f32 0xFF800000#32) reducesTo_S8x2_S8_d1 h_S_)))))

/-- The softmax of the two. -/
def soft (v : FVec Ideal S8x2 .f32) : FVec Ideal S8x2 .f32 :=
  Host.divf (exps v) (broadcastInDim S8x2 ![0, 1] bcast_S8x1_S8x2_0_1 (broadcastInDim S8x1 ![0] bcast_S8_S8x1_0
    (Host.reduceAdd (exps v) (constant S_ .f32 0x00000000#32) reducesTo_S8x2_S8_d1 h_S_)))

/-- The row numbers. -/
def rows : IVec S8x1 32 := broadcastInDim S8x1 ![0] bcast_S8_S8x1_0 (iotaInDim S8 32 0)

/-- The two index words of each weight. -/
def words (p : IVec S8x2 32) : IVec S8x2x2 32 :=
  concatenate S8x2x2 2 [⟨S8x2x1, (broadcastInDim S8x2x1 ![0, 1] bcast_S8x2_S8x2x1_0_1 (broadcastInDim S8x2 ![0, 1] bcast_S8x1_S8x2_0_1
      (select (cmpi .slt rows (broadcastInDim S8x1 ![] bcast_S_S8x1 (constantI S_ 32 0#32)))
        (addi rows (broadcastInDim S8x1 ![] bcast_S_S8x1 (constantI S_ 32 8#32))) rows)))⟩,
    ⟨S8x2x1, (broadcastInDim S8x2x1 ![0, 1] bcast_S8x2_S8x2x1_0_1
      (select (cmpi .slt p (broadcastInDim S8x2 ![] bcast_S_S8x2 (constantI S_ 32 0#32)))
        (addi p (broadcastInDim S8x2 ![] bcast_S_S8x2 (constantI S_ 32 6#32))) p))⟩] concatenates_S8x2x1_S8x2x1_S8x2x2_d2

/-- The gates. -/
def gates (w : FVec Ideal S8x6 .f32) : FVec Ideal S8x6 .f32 :=
  Host.scatter scatter_S8x6_S8x2x2_S8x2_n_01_01_2 (fun _ b => b) (broadcastInDim S8x6 ![] bcast_S_S8x6 (constant S_ .f32 0x00000000#32))
    (words (poss w)) (soft (vals w))

/-- The number of rows that use each gate. -/
def load (g : FVec Ideal S8x6 .f32) : IVec S6 32 :=
  Host.reduce IntOp.addi (extui 32 (cmpf .ogt g (broadcastInDim S8x6 ![] bcast_S_S8x6 (constant S_ .f32 0x00000000#32))) natLt_1_32)
    (constantI S_ 32 0#32) reducesTo_S8x6_S6_d0 h_S_

/-- The comparison that sorts a row. -/
def cmpRow (w : FVec Ideal S8x6 .f32) (b : Fin 8) (i j : Fin 6) : Bool :=
  FloatOps.cmpfTotal (F := Ideal) .gt (w (ix2 b i)) (w (ix2 b j)) == 1#1

theorem cmpRow_eq (w : FVec Ideal S8x6 .f32) (b : Fin 8) (i j : Fin 6) :
    cmpRow w b i j = decide (w (ix2 b j) < w (ix2 b i)) := by
  unfold cmpRow
  rw [Ideal.cmpfTotal_def]
  by_cases h : w (ix2 b j) < w (ix2 b i) <;> simp [Ideal.cmp, h, CmpDirection.ordered]

theorem along_row (b : Fin 8) (q k : Fin 6) : Shape.Idx.along (s := S8x6) (ix2 b q) 1 k = ix2 b k := by
  funext a
  fin_cases a <;> rfl

/-- The comparison that sorts the row through an index. -/
theorem cmp_along (w : FVec Ideal S8x6 .f32) (b : Fin 8) (q : Fin 6) :
    (fun k k' : Fin 6 => FloatOps.cmpfTotal (F := Ideal) (φ := .f32) .gt (w (Shape.Idx.along (s := S8x6) (ix2 b q) 1 k))
      (w (Shape.Idx.along (s := S8x6) (ix2 b q) 1 k')) == 1#1) = cmpRow w b := by
  funext k k'
  rw [along_row, along_row]
  rfl

theorem vals_apply (w : FVec Ideal S8x6 .f32) (b : Fin 8) (q : Fin 2) :
    vals w (ix2 b q) = w (ix2 b (sortedFrom (cmpRow w b) ⟨q.val, by omega⟩)) := by
  unfold vals Host.topK
  pointwise []
  simp only [Host.sort2]
  rw [dif_pos (by norm_num)]
  rw [← cmp_along w b ⟨q.val, by omega⟩]
  exact congrArg w (along_row b _ _)

theorem poss_apply (w : FVec Ideal S8x6 .f32) (b : Fin 8) (q : Fin 2) :
    poss w (ix2 b q) = BitVec.ofNat 32 (sortedFrom (cmpRow w b) ⟨q.val, by omega⟩).val := by
  unfold poss Host.topK
  pointwise []
  simp only [Host.sort2]
  rw [dif_pos (by norm_num)]
  rw [← cmp_along w b ⟨q.val, by omega⟩]
  rfl

theorem bits_bot : Ideal.ofBits .f32 0xFF800000#32 = ⊥ := by
  simp [Ideal.ofBits, Ideal.ieee]

/-- The exponentials where the first entry is the greater one. -/
theorem exps_apply (v : FVec Ideal S8x2 .f32) (b : Fin 8) (q : Fin 2) (h : v (ix2 b 1) ≤ v (ix2 b 0)) :
    exps v (ix2 b q) = Ideal.exp (v (ix2 b q) - v (ix2 b 0)) := by
  have h0 : exps v (ix2 b q) = Ideal.exp (v (ix2 b q) - max (Ideal.ofBits .f32 0xFF800000#32)
      (Finset.fold max (Ideal.ofBits .f32 0xFF800000#32) (fun x => v (ix2 b x)) Finset.univ)) := by
    pointwise [exps]
  have h1 : Finset.fold max ⊥ (fun x : Fin 2 => v (ix2 b x)) Finset.univ = v (ix2 b 0) := by
    refine le_antisymm ?_ ?_
    · refine (Finset.fold_max_le _).mpr ⟨bot_le, fun j _ => ?_⟩
      fin_cases j
      · exact le_rfl
      · exact h
    · exact (Finset.le_fold_max _).mpr (Or.inr ⟨0, Finset.mem_univ 0, le_rfl⟩)
  rw [h0, bits_bot, h1, max_eq_right bot_le]

theorem soft_apply (v : FVec Ideal S8x2 .f32) (b : Fin 8) (q : Fin 2) :
    soft v (ix2 b q) = Ideal.div (exps v (ix2 b q)) (exps v (ix2 b 0) + exps v (ix2 b 1)) := by
  have h0 : soft v (ix2 b q) = Ideal.div (exps v (ix2 b q)) (∑ x : Fin 2, exps v (ix2 b x)) := by
    pointwise [soft]
  rw [h0, Fin.sum_univ_two]

theorem row_word : ∀ b : Fin 8, (Scalar.select (IntOp.cmpi .slt (BitVec.ofNat 32 b.val) 0#32) (IntOp.addi (BitVec.ofNat 32 b.val) 8#32)
    (BitVec.ofNat 32 b.val)).toInt = b.val := by decide

theorem col_word : ∀ k : Fin 6, (Scalar.select (IntOp.cmpi .slt (BitVec.ofNat 32 k.val) 0#32) (IntOp.addi (BitVec.ofNat 32 k.val) 6#32)
    (BitVec.ofNat 32 k.val)).toInt = k.val := by decide

theorem words_row (p : IVec S8x2 32) (b : Fin 8) (q : Fin 2) : (words p (ix3 b q 0)).toInt = b.val := by
  have h0 : words p (ix3 b q 0) = Scalar.select (IntOp.cmpi .slt (BitVec.ofNat 32 b.val) 0#32)
      (IntOp.addi (BitVec.ofNat 32 b.val) 8#32) (BitVec.ofNat 32 b.val) := by
    pointwise [words, rows]
  rw [h0, row_word]

theorem words_col (p : IVec S8x2 32) (b : Fin 8) (q : Fin 2) (k : Fin 6) (h : p (ix2 b q) = BitVec.ofNat 32 k.val) :
    (words p (ix3 b q 1)).toInt = k.val := by
  have h0 : words p (ix3 b q 1) = Scalar.select (IntOp.cmpi .slt (p (ix2 b q)) 0#32)
      (IntOp.addi (p (ix2 b q)) 6#32) (p (ix2 b q)) := by
    pointwise [words, rows]
  rw [h0, h, col_word]

theorem load_apply (g : FVec Ideal S8x6 .f32) (e : Fin 6) :
    load g (ix1 e) = Finset.fold IntOp.addi (0#32)
      (fun b : Fin 8 => BitVec.setWidth 32 (BitVec.ofBool (decide (0 < g (ix2 b e))))) Finset.univ := by
  pointwise [load]

/-- The gates of a row of real logits. -/
theorem gates_apply (w : FVec Ideal S8x6 .f32) (b : Fin 8) (L : Fin 6 → EReal) (hL : ∀ e, w (ix2 b e) = L e)
    (hr : ∀ e, IsReal (L e)) (k₁ k₂ : Fin 6) (h₁ : First L k₁) (h₂ : First (drop L k₁) k₂) (e : Fin 6) :
    gates w (ix2 b e) = gate L k₁ k₂ e := by
  obtain ⟨s0, s1⟩ := sortedFrom_two hr h₁ h₂ (cmpRow w b) fun i j => by rw [cmpRow_eq, hL, hL]
  have hne := First.ne hr h₂
  have v0 : vals w (ix2 b 0) = L k₁ := by rw [vals_apply, ← hL]; exact congrArg (fun k => w (ix2 b k)) s0
  have v1 : vals w (ix2 b 1) = L k₂ := by rw [vals_apply, ← hL]; exact congrArg (fun k => w (ix2 b k)) s1
  have p0 : poss w (ix2 b 0) = BitVec.ofNat 32 k₁.val := by
    rw [poss_apply]; exact congrArg (fun k : Fin 6 => BitVec.ofNat 32 k.val) s0
  have p1 : poss w (ix2 b 1) = BitVec.ofNat 32 k₂.val := by
    rw [poss_apply]; exact congrArg (fun k : Fin 6 => BitVec.ofNat 32 k.val) s1
  have hle : vals w (ix2 b 1) ≤ vals w (ix2 b 0) := by rw [v0, v1]; exact h₁.ge k₂
  have e0 : exps (vals w) (ix2 b 0) = 1 := by
    rw [exps_apply _ b 0 hle, v0]
    obtain ⟨r, hr1⟩ := hr k₁
    rw [hr1, ← EReal.coe_sub, sub_self]
    rw [Ideal.exp_coe, Real.exp_zero, EReal.coe_one]
  have e1 : exps (vals w) (ix2 b 1) = Ideal.exp (L k₂ - L k₁) := by rw [exps_apply _ b 1 hle, v0, v1]
  have w0 : soft (vals w) (ix2 b 0) = Ideal.div 1 (1 + Ideal.exp (L k₂ - L k₁)) := by rw [soft_apply, e0, e1]
  have w1 : soft (vals w) (ix2 b 1) = Ideal.div (Ideal.exp (L k₂ - L k₁)) (1 + Ideal.exp (L k₂ - L k₁)) := by
    rw [soft_apply, e0, e1]
  have lands : ∀ (a : Fin 8) (q : Fin 2),
      (scatter_S8x6_S8x2x2_S8x2_n_01_01_2).resultIdx? (ix2 a q) (words (poss w)) = some (ix2 b e)
        ↔ (words (poss w) (ix3 a q 0)).toInt = b.val ∧ (words (poss w) (ix3 a q 1)).toInt = e.val := fun a q =>
    Routing.scatter_lands2 scatter_S8x6_S8x2x2_S8x2_n_01_01_2 rfl rfl rfl (words (poss w)) a q b e
  have c0 := words_col (poss w) b 0 k₁ p0
  have c1 := words_col (poss w) b 1 k₂ p1
  unfold gates gate
  by_cases g1 : e = k₁
  · have g2 : e ≠ k₂ := fun h => hne (h.symm.trans g1)
    rw [if_pos g1, if_neg g2, add_zero]
    refine Routing.scatter_set_hit _ _ _ _ _ _ ?_ (ix2 b 0) ((lands b 0).mpr ⟨words_row _ b 0, by rw [c0, g1]⟩)
    intro y hy
    obtain ⟨a, q, rfl⟩ : ∃ (a : Fin 8) (q : Fin 2), y = ix2 a q := ⟨y 0, y 1, by funext k; fin_cases k <;> rfl⟩
    obtain ⟨ha, hq⟩ := (lands a q).mp hy
    rw [words_row] at ha
    obtain rfl : a = b := Fin.ext (by exact_mod_cast ha)
    fin_cases q
    · exact w0
    · exact absurd (Fin.ext (by exact_mod_cast c1.symm.trans hq) : k₂ = e) fun h => g2 h.symm
  · by_cases g2 : e = k₂
    · rw [if_neg g1, if_pos g2, zero_add]
      refine Routing.scatter_set_hit _ _ _ _ _ _ ?_ (ix2 b 1) ((lands b 1).mpr ⟨words_row _ b 1, by rw [c1, g2]⟩)
      intro y hy
      obtain ⟨a, q, rfl⟩ : ∃ (a : Fin 8) (q : Fin 2), y = ix2 a q := ⟨y 0, y 1, by funext k; fin_cases k <;> rfl⟩
      obtain ⟨ha, hq⟩ := (lands a q).mp hy
      rw [words_row] at ha
      obtain rfl : a = b := Fin.ext (by exact_mod_cast ha)
      fin_cases q
      · exact absurd (Fin.ext (by exact_mod_cast c0.symm.trans hq) : k₁ = e) fun h => g1 h.symm
      · exact w1
    · rw [if_neg g1, if_neg g2, add_zero, Routing.scatter_set_miss]
      · pointwise []
      · intro y hy
        obtain ⟨a, q, rfl⟩ : ∃ (a : Fin 8) (q : Fin 2), y = ix2 a q := ⟨y 0, y 1, by funext k; fin_cases k <;> rfl⟩
        obtain ⟨ha, hq⟩ := (lands a q).mp hy
        rw [words_row] at ha
        obtain rfl : a = b := Fin.ext (by exact_mod_cast ha)
        fin_cases q
        · exact absurd (Fin.ext (by exact_mod_cast c0.symm.trans hq) : k₁ = e) fun h => g1 h.symm
        · exact absurd (Fin.ext (by exact_mod_cast c1.symm.trans hq) : k₂ = e) fun h => g2 h.symm

end Cert.ReferenceIdeal.Gat

end
-- ==== Proof.Layers.lean ====
module

public import proofs.«01_k».proof.Proof.Layer
public import proofs.«01_k».proof.Proof.Gen.KernelIdeal.Skeleton
public import Idealize.ShloMosaic.Lib.Pointwise

/-! The five layers of the kernel's first call, each as a vector of its own: from the layer's images, the weights of
    a patch and the bias. `lay_apply` of each says that an entry is the layer of Proof/Layer.lean. -/

@[expose] public section

set_option maxRecDepth 16384

noncomputable section

namespace Cert.KernelIdeal.Lay

open Idealize.ShloMosaic Cert.KernelIdeal Cert.KernelIdeal.Gen Cert.Gate

/-- Layer 1: the patches, their product with the weights, the bias and the rectifier. -/
def lay1 (v0 : FVec Ideal S16x32x32x256 .f32) (v11 : FVec Ideal S1024x256 .f32) (v14 : FVec Ideal S1x1x256 .f32) : FVec Ideal S16x16x16x256 .f32 :=
  have v1 : FVec Ideal S16x32x32x256 .f32 := shapeCast S16x32x32x256 v0 shapeCasts_S16x32x32x256_S16x32x32x256
  have v2 : FVec Ideal S16x32x16x512 .f32 := shapeCast S16x32x16x512 v1 shapeCasts_S16x32x32x256_S16x32x16x512
  have v3 : FVec Ideal S16x16x2x16x512 .f32 := shapeCast S16x16x2x16x512 v2 shapeCasts_S16x32x16x512_S16x16x2x16x512
  have v4 : FVec Ideal S16x16x1x16x512 .f32 := extractStridedSlice S16x16x1x16x512 ![0, 0, 0, 0, 0] v3 slices_S16x16x2x16x512_o0_0_0_0_0_S16x16x1x16x512
  have v5 : FVec Ideal S16x16x16x512 .f32 := shapeCast S16x16x16x512 v4 shapeCasts_S16x16x1x16x512_S16x16x16x512
  have v6 : FVec Ideal S4096x512 .f32 := shapeCast S4096x512 v5 shapeCasts_S16x16x16x512_S4096x512
  have v7 : FVec Ideal S16x16x1x16x512 .f32 := extractStridedSlice S16x16x1x16x512 ![0, 0, 1, 0, 0] v3 slices_S16x16x2x16x512_o0_0_1_0_0_S16x16x1x16x512
  have v8 : FVec Ideal S16x16x16x512 .f32 := shapeCast S16x16x16x512 v7 shapeCasts_S16x16x1x16x512_S16x16x16x512
  have v9 : FVec Ideal S4096x512 .f32 := shapeCast S4096x512 v8 shapeCasts_S16x16x16x512_S4096x512
  have v10 : FVec Ideal S4096x1024 .f32 := concatenate S4096x1024 1 [⟨S4096x512, v6⟩, ⟨S4096x512, v9⟩] concatenates_S4096x512_S4096x512_S4096x1024_d1
  have v12 : FVec Ideal S1024x256 .f32 := shapeCast S1024x256 v11 shapeCasts_S1024x256_S1024x256
  have cst : FVec Ideal S4096x256 .f32 := constant S4096x256 .f32 0x00000000#32
  have v13 : FVec Ideal S4096x256 .f32 := matmul dot_S4096x1024_S1024x256_S4096x256_1_0_0_1_n_n none v10 v12 cst
  have v15 : FVec Ideal S1x256 .f32 := shapeCast S1x256 v14 shapeCasts_S1x1x256_S1x256
  have v16 : FVec Ideal S4096x256 .f32 := broadcastTo S4096x256 v15 broadcasts_S1x256_S4096x256
  have v17 : FVec Ideal S4096x256 .f32 := addf v13 v16
  have cst_8 : Ideal .f32 := Scalar.ofBits .f32 0x00000000#32
  have v18 : FVec Ideal S4096x256 .f32 := broadcast S4096x256 cst_8
  have v19 : FVec Ideal S4096x256 .f32 := maximumf v17 v18
  have v20 : FVec Ideal S16x16x16x256 .f32 := shapeCast S16x16x16x256 v19 shapeCasts_S4096x256_S16x16x16x256
  v20

/-- Layer 2: the patches, their product with the weights, the bias and the rectifier. -/
def lay2 (v20 : FVec Ideal S16x16x16x256 .f32) (v30 : FVec Ideal S1024x256 .f32) (v33 : FVec Ideal S1x1x256 .f32) : FVec Ideal S16x8x8x256 .f32 :=
  have v21 : FVec Ideal S16x16x8x512 .f32 := shapeCast S16x16x8x512 v20 shapeCasts_S16x16x16x256_S16x16x8x512
  have v22 : FVec Ideal S16x8x2x8x512 .f32 := shapeCast S16x8x2x8x512 v21 shapeCasts_S16x16x8x512_S16x8x2x8x512
  have v23 : FVec Ideal S16x8x1x8x512 .f32 := extractStridedSlice S16x8x1x8x512 ![0, 0, 0, 0, 0] v22 slices_S16x8x2x8x512_o0_0_0_0_0_S16x8x1x8x512
  have v24 : FVec Ideal S16x8x8x512 .f32 := shapeCast S16x8x8x512 v23 shapeCasts_S16x8x1x8x512_S16x8x8x512
  have v25 : FVec Ideal S1024x512 .f32 := shapeCast S1024x512 v24 shapeCasts_S16x8x8x512_S1024x512
  have v26 : FVec Ideal S16x8x1x8x512 .f32 := extractStridedSlice S16x8x1x8x512 ![0, 0, 1, 0, 0] v22 slices_S16x8x2x8x512_o0_0_1_0_0_S16x8x1x8x512
  have v27 : FVec Ideal S16x8x8x512 .f32 := shapeCast S16x8x8x512 v26 shapeCasts_S16x8x1x8x512_S16x8x8x512
  have v28 : FVec Ideal S1024x512 .f32 := shapeCast S1024x512 v27 shapeCasts_S16x8x8x512_S1024x512
  have v29 : FVec Ideal S1024x1024 .f32 := concatenate S1024x1024 1 [⟨S1024x512, v25⟩, ⟨S1024x512, v28⟩] concatenates_S1024x512_S1024x512_S1024x1024_d1
  have v31 : FVec Ideal S1024x256 .f32 := shapeCast S1024x256 v30 shapeCasts_S1024x256_S1024x256
  have cst_11 : FVec Ideal S1024x256 .f32 := constant S1024x256 .f32 0x00000000#32
  have v32 : FVec Ideal S1024x256 .f32 := matmul dot_S1024x1024_S1024x256_S1024x256_1_0_0_1_n_n none v29 v31 cst_11
  have v34 : FVec Ideal S1x256 .f32 := shapeCast S1x256 v33 shapeCasts_S1x1x256_S1x256
  have v35 : FVec Ideal S1024x256 .f32 := broadcastTo S1024x256 v34 broadcasts_S1x256_S1024x256
  have v36 : FVec Ideal S1024x256 .f32 := addf v32 v35
  have cst_14 : Ideal .f32 := Scalar.ofBits .f32 0x00000000#32
  have v37 : FVec Ideal S1024x256 .f32 := broadcast S1024x256 cst_14
  have v38 : FVec Ideal S1024x256 .f32 := maximumf v36 v37
  have v39 : FVec Ideal S16x8x8x256 .f32 := shapeCast S16x8x8x256 v38 shapeCasts_S1024x256_S16x8x8x256
  v39

/-- Layer 3: the patches, their product with the weights, the bias and the rectifier. -/
def lay3 (v39 : FVec Ideal S16x8x8x256 .f32) (v49 : FVec Ideal S1024x256 .f32) (v52 : FVec Ideal S1x1x256 .f32) : FVec Ideal S16x4x4x256 .f32 :=
  have v40 : FVec Ideal S16x8x4x512 .f32 := shapeCast S16x8x4x512 v39 shapeCasts_S16x8x8x256_S16x8x4x512
  have v41 : FVec Ideal S16x4x2x4x512 .f32 := shapeCast S16x4x2x4x512 v40 shapeCasts_S16x8x4x512_S16x4x2x4x512
  have v42 : FVec Ideal S16x4x1x4x512 .f32 := extractStridedSlice S16x4x1x4x512 ![0, 0, 0, 0, 0] v41 slices_S16x4x2x4x512_o0_0_0_0_0_S16x4x1x4x512
  have v43 : FVec Ideal S16x4x4x512 .f32 := shapeCast S16x4x4x512 v42 shapeCasts_S16x4x1x4x512_S16x4x4x512
  have v44 : FVec Ideal S256x512 .f32 := shapeCast S256x512 v43 shapeCasts_S16x4x4x512_S256x512
  have v45 : FVec Ideal S16x4x1x4x512 .f32 := extractStridedSlice S16x4x1x4x512 ![0, 0, 1, 0, 0] v41 slices_S16x4x2x4x512_o0_0_1_0_0_S16x4x1x4x512
  have v46 : FVec Ideal S16x4x4x512 .f32 := shapeCast S16x4x4x512 v45 shapeCasts_S16x4x1x4x512_S16x4x4x512
  have v47 : FVec Ideal S256x512 .f32 := shapeCast S256x512 v46 shapeCasts_S16x4x4x512_S256x512
  have v48 : FVec Ideal S256x1024 .f32 := concatenate S256x1024 1 [⟨S256x512, v44⟩, ⟨S256x512, v47⟩] concatenates_S256x512_S256x512_S256x1024_d1
  have v50 : FVec Ideal S1024x256 .f32 := shapeCast S1024x256 v49 shapeCasts_S1024x256_S1024x256
  have cst_17 : FVec Ideal S256x256 .f32 := constant S256x256 .f32 0x00000000#32
  have v51 : FVec Ideal S256x256 .f32 := matmul dot_S256x1024_S1024x256_S256x256_1_0_0_1_n_n none v48 v50 cst_17
  have v53 : FVec Ideal S1x256 .f32 := shapeCast S1x256 v52 shapeCasts_S1x1x256_S1x256
  have v54 : FVec Ideal S256x256 .f32 := broadcastTo S256x256 v53 broadcasts_S1x256_S256x256
  have v55 : FVec Ideal S256x256 .f32 := addf v51 v54
  have cst_20 : Ideal .f32 := Scalar.ofBits .f32 0x00000000#32
  have v56 : FVec Ideal S256x256 .f32 := broadcast S256x256 cst_20
  have v57 : FVec Ideal S256x256 .f32 := maximumf v55 v56
  have v58 : FVec Ideal S16x4x4x256 .f32 := shapeCast S16x4x4x256 v57 shapeCasts_S256x256_S16x4x4x256
  v58

/-- Layer 4: the patches, their product with the weights, the bias and the rectifier. -/
def lay4 (v58 : FVec Ideal S16x4x4x256 .f32) (v68 : FVec Ideal S1024x256 .f32) (v71 : FVec Ideal S1x1x256 .f32) : FVec Ideal S16x2x2x256 .f32 :=
  have v59 : FVec Ideal S16x4x2x512 .f32 := shapeCast S16x4x2x512 v58 shapeCasts_S16x4x4x256_S16x4x2x512
  have v60 : FVec Ideal S16x2x2x2x512 .f32 := shapeCast S16x2x2x2x512 v59 shapeCasts_S16x4x2x512_S16x2x2x2x512
  have v61 : FVec Ideal S16x2x1x2x512 .f32 := extractStridedSlice S16x2x1x2x512 ![0, 0, 0, 0, 0] v60 slices_S16x2x2x2x512_o0_0_0_0_0_S16x2x1x2x512
  have v62 : FVec Ideal S16x2x2x512 .f32 := shapeCast S16x2x2x512 v61 shapeCasts_S16x2x1x2x512_S16x2x2x512
  have v63 : FVec Ideal S64x512 .f32 := shapeCast S64x512 v62 shapeCasts_S16x2x2x512_S64x512
  have v64 : FVec Ideal S16x2x1x2x512 .f32 := extractStridedSlice S16x2x1x2x512 ![0, 0, 1, 0, 0] v60 slices_S16x2x2x2x512_o0_0_1_0_0_S16x2x1x2x512
  have v65 : FVec Ideal S16x2x2x512 .f32 := shapeCast S16x2x2x512 v64 shapeCasts_S16x2x1x2x512_S16x2x2x512
  have v66 : FVec Ideal S64x512 .f32 := shapeCast S64x512 v65 shapeCasts_S16x2x2x512_S64x512
  have v67 : FVec Ideal S64x1024 .f32 := concatenate S64x1024 1 [⟨S64x512, v63⟩, ⟨S64x512, v66⟩] concatenates_S64x512_S64x512_S64x1024_d1
  have v69 : FVec Ideal S1024x256 .f32 := shapeCast S1024x256 v68 shapeCasts_S1024x256_S1024x256
  have cst_23 : FVec Ideal S64x256 .f32 := constant S64x256 .f32 0x00000000#32
  have v70 : FVec Ideal S64x256 .f32 := matmul dot_S64x1024_S1024x256_S64x256_1_0_0_1_n_n none v67 v69 cst_23
  have v72 : FVec Ideal S1x256 .f32 := shapeCast S1x256 v71 shapeCasts_S1x1x256_S1x256
  have v73 : FVec Ideal S64x256 .f32 := broadcastTo S64x256 v72 broadcasts_S1x256_S64x256
  have v74 : FVec Ideal S64x256 .f32 := addf v70 v73
  have cst_26 : Ideal .f32 := Scalar.ofBits .f32 0x00000000#32
  have v75 : FVec Ideal S64x256 .f32 := broadcast S64x256 cst_26
  have v76 : FVec Ideal S64x256 .f32 := maximumf v74 v75
  have v77 : FVec Ideal S16x2x2x256 .f32 := shapeCast S16x2x2x256 v76 shapeCasts_S64x256_S16x2x2x256
  v77

/-- Layer 5: the patches, their product with the weights, the bias and the rectifier. -/
def lay5 (v77 : FVec Ideal S16x2x2x256 .f32) (v87 : FVec Ideal S1024x256 .f32) (v90 : FVec Ideal S1x1x256 .f32) : FVec Ideal S16x1x1x256 .f32 :=
  have v78 : FVec Ideal S16x2x1x512 .f32 := shapeCast S16x2x1x512 v77 shapeCasts_S16x2x2x256_S16x2x1x512
  have v79 : FVec Ideal S16x1x2x1x512 .f32 := shapeCast S16x1x2x1x512 v78 shapeCasts_S16x2x1x512_S16x1x2x1x512
  have v80 : FVec Ideal S16x1x1x1x512 .f32 := extractStridedSlice S16x1x1x1x512 ![0, 0, 0, 0, 0] v79 slices_S16x1x2x1x512_o0_0_0_0_0_S16x1x1x1x512
  have v81 : FVec Ideal S16x1x1x512 .f32 := shapeCast S16x1x1x512 v80 shapeCasts_S16x1x1x1x512_S16x1x1x512
  have v82 : FVec Ideal S16x512 .f32 := shapeCast S16x512 v81 shapeCasts_S16x1x1x512_S16x512
  have v83 : FVec Ideal S16x1x1x1x512 .f32 := extractStridedSlice S16x1x1x1x512 ![0, 0, 1, 0, 0] v79 slices_S16x1x2x1x512_o0_0_1_0_0_S16x1x1x1x512
  have v84 : FVec Ideal S16x1x1x512 .f32 := shapeCast S16x1x1x512 v83 shapeCasts_S16x1x1x1x512_S16x1x1x512
  have v85 : FVec Ideal S16x512 .f32 := shapeCast S16x512 v84 shapeCasts_S16x1x1x512_S16x512
  have v86 : FVec Ideal S16x1024 .f32 := concatenate S16x1024 1 [⟨S16x512, v82⟩, ⟨S16x512, v85⟩] concatenates_S16x512_S16x512_S16x1024_d1
  have v88 : FVec Ideal S1024x256 .f32 := shapeCast S1024x256 v87 shapeCasts_S1024x256_S1024x256
  have cst_29 : FVec Ideal S16x256 .f32 := constant S16x256 .f32 0x00000000#32
  have v89 : FVec Ideal S16x256 .f32 := matmul dot_S16x1024_S1024x256_S16x256_1_0_0_1_n_n none v86 v88 cst_29
  have v91 : FVec Ideal S1x256 .f32 := shapeCast S1x256 v90 shapeCasts_S1x1x256_S1x256
  have v92 : FVec Ideal S16x256 .f32 := broadcastTo S16x256 v91 broadcasts_S1x256_S16x256
  have v93 : FVec Ideal S16x256 .f32 := addf v89 v92
  have cst_32 : Ideal .f32 := Scalar.ofBits .f32 0x00000000#32
  have v94 : FVec Ideal S16x256 .f32 := broadcast S16x256 cst_32
  have v95 : FVec Ideal S16x256 .f32 := maximumf v93 v94
  have v96 : FVec Ideal S16x1x1x256 .f32 := shapeCast S16x1x1x256 v95 shapeCasts_S16x256_S16x1x1x256
  v96

theorem lay1_apply (H : Img) (W : Fin 1024 → Fin 256 → EReal) (B : Fin 256 → EReal) (x : FVec Ideal S16x32x32x256 .f32)
    (w : FVec Ideal S1024x256 .f32) (b : FVec Ideal S1x1x256 .f32)
    (hx : ∀ n i j c, x (ix4 n i j c) = H n i j c) (hw : ∀ k o, w (ix2 k o) = W k o) (hb : ∀ o, b (ix3 0 0 o) = B o)
    (n : Fin 16) (i j : Fin 16) (o : Fin 256) : lay1 x w b (ix4 n i j o) = kerLayer W B H n i j o := by
  rw [kerLayer_halves]
  pointwise [lay1]
  simp only [hx, hw, hb]

theorem lay2_apply (H : Img) (W : Fin 1024 → Fin 256 → EReal) (B : Fin 256 → EReal) (x : FVec Ideal S16x16x16x256 .f32)
    (w : FVec Ideal S1024x256 .f32) (b : FVec Ideal S1x1x256 .f32)
    (hx : ∀ n i j c, x (ix4 n i j c) = H n i j c) (hw : ∀ k o, w (ix2 k o) = W k o) (hb : ∀ o, b (ix3 0 0 o) = B o)
    (n : Fin 16) (i j : Fin 8) (o : Fin 256) : lay2 x w b (ix4 n i j o) = kerLayer W B H n i j o := by
  rw [kerLayer_halves]
  pointwise [lay2]
  simp only [hx, hw, hb]

theorem lay3_apply (H : Img) (W : Fin 1024 → Fin 256 → EReal) (B : Fin 256 → EReal) (x : FVec Ideal S16x8x8x256 .f32)
    (w : FVec Ideal S1024x256 .f32) (b : FVec Ideal S1x1x256 .f32)
    (hx : ∀ n i j c, x (ix4 n i j c) = H n i j c) (hw : ∀ k o, w (ix2 k o) = W k o) (hb : ∀ o, b (ix3 0 0 o) = B o)
    (n : Fin 16) (i j : Fin 4) (o : Fin 256) : lay3 x w b (ix4 n i j o) = kerLayer W B H n i j o := by
  rw [kerLayer_halves]
  pointwise [lay3]
  simp only [hx, hw, hb]

theorem lay4_apply (H : Img) (W : Fin 1024 → Fin 256 → EReal) (B : Fin 256 → EReal) (x : FVec Ideal S16x4x4x256 .f32)
    (w : FVec Ideal S1024x256 .f32) (b : FVec Ideal S1x1x256 .f32)
    (hx : ∀ n i j c, x (ix4 n i j c) = H n i j c) (hw : ∀ k o, w (ix2 k o) = W k o) (hb : ∀ o, b (ix3 0 0 o) = B o)
    (n : Fin 16) (i j : Fin 2) (o : Fin 256) : lay4 x w b (ix4 n i j o) = kerLayer W B H n i j o := by
  rw [kerLayer_halves]
  pointwise [lay4]
  simp only [hx, hw, hb]

theorem lay5_apply (H : Img) (W : Fin 1024 → Fin 256 → EReal) (B : Fin 256 → EReal) (x : FVec Ideal S16x2x2x256 .f32)
    (w : FVec Ideal S1024x256 .f32) (b : FVec Ideal S1x1x256 .f32)
    (hx : ∀ n i j c, x (ix4 n i j c) = H n i j c) (hw : ∀ k o, w (ix2 k o) = W k o) (hb : ∀ o, b (ix3 0 0 o) = B o)
    (n : Fin 16) (i j : Fin 1) (o : Fin 256) : lay5 x w b (ix4 n i j o) = kerLayer W B H n i j o := by
  rw [kerLayer_halves]
  pointwise [lay5]
  simp only [hx, hw, hb]
  rfl

end Cert.KernelIdeal.Lay

end
-- ==== Proof.Stack.lean ====
module

public import proofs.«01_k».proof.Proof.Layers

/-! What one grid point of the kernel's first call stores: five layers of a block of images, one over the other, then
    the linear map to the features. -/

@[expose] public section

set_option maxRecDepth 16384

noncomputable section

namespace Cert.KernelIdeal.Lay

open Idealize.ShloMosaic Cert.KernelIdeal Cert.KernelIdeal.Gen Cert.Gate

/-- The linear map to the features, and its bias. -/
def fuse (v96 : FVec Ideal S16x1x1x256 .f32) (v98 : FVec Ideal S256x256 .f32) (v100 : FVec Ideal S1x256 .f32) : FVec Ideal S16x256 .f32 :=
  addf (matmul dot_S16x256_S256x256_S16x256_1_1_0_0_n_n none (shapeCast S16x256 v96 shapeCasts_S16x1x1x256_S16x256) v98
      (constant S16x256 .f32 0x00000000#32))
    (broadcastTo S16x256 (shapeCast S1x256 v100 shapeCasts_S1x256_S1x256) broadcasts_S1x256_S16x256)

/-- What the body stores, layer by layer. -/
theorem pay_eq (x : FVec Ideal S16x32x32x256 .f32) (w1 w2 w3 w4 w5 : FVec Ideal S1024x256 .f32)
    (b1 b2 b3 b4 b5 : FVec Ideal S1x1x256 .f32) (fw : FVec Ideal S256x256 .f32) (fb : FVec Ideal S1x256 .f32) :
    k0_pay1 (F := Ideal) (k0_pay3 (k0_pay2 x w1 b1 w2 b2) w3 b3 w4 b4) w5 b5 fw fb
      = fuse (lay5 (lay4 (lay3 (lay2 (lay1 x w1 b1) w2 b2) w3 b3) w4 b4) w5 b5) fw fb := rfl

/-- A feature of an image whose last layer is `h`. -/
theorem fuse_apply (h : FVec Ideal S16x1x1x256 .f32) (fw : FVec Ideal S256x256 .f32) (fb : FVec Ideal S1x256 .f32)
    (n : Fin 16) (f : Fin 256) :
    fuse h fw fb (ix2 n f) = ∑ c : Fin 256, h (ix4 n 0 0 c) * fw (ix2 f c) + fb (ix2 0 f) := by
  pointwise [fuse]

/-- The features of an image. -/
def feat (H5 : Img) (fw : Fin 256 → Fin 256 → EReal) (fb : Fin 256 → EReal) (n : ℕ) (f : Fin 256) : EReal :=
  ∑ c : Fin 256, H5 n 0 0 c * fw f c + fb f

/-- The kernel's five layers. -/
def kerStack (W : Fin 5 → Fin 1024 → Fin 256 → EReal) (B : Fin 5 → Fin 256 → EReal) (H : Img) : Img :=
  kerLayer (W 4) (B 4) (kerLayer (W 3) (B 3) (kerLayer (W 2) (B 2) (kerLayer (W 1) (B 1) (kerLayer (W 0) (B 0) H))))

/-- What the body stores, entry by entry. -/
theorem pay_apply (H : Img) (W : Fin 5 → Fin 1024 → Fin 256 → EReal) (B : Fin 5 → Fin 256 → EReal)
    (FW : Fin 256 → Fin 256 → EReal) (FB : Fin 256 → EReal)
    (x : FVec Ideal S16x32x32x256 .f32) (w1 w2 w3 w4 w5 : FVec Ideal S1024x256 .f32)
    (b1 b2 b3 b4 b5 : FVec Ideal S1x1x256 .f32) (fw : FVec Ideal S256x256 .f32) (fb : FVec Ideal S1x256 .f32)
    (hx : ∀ n i j c, x (ix4 n i j c) = H n i j c)
    (hw1 : ∀ k o, w1 (ix2 k o) = W 0 k o) (hw2 : ∀ k o, w2 (ix2 k o) = W 1 k o) (hw3 : ∀ k o, w3 (ix2 k o) = W 2 k o)
    (hw4 : ∀ k o, w4 (ix2 k o) = W 3 k o) (hw5 : ∀ k o, w5 (ix2 k o) = W 4 k o)
    (hb1 : ∀ o, b1 (ix3 0 0 o) = B 0 o) (hb2 : ∀ o, b2 (ix3 0 0 o) = B 1 o) (hb3 : ∀ o, b3 (ix3 0 0 o) = B 2 o)
    (hb4 : ∀ o, b4 (ix3 0 0 o) = B 3 o) (hb5 : ∀ o, b5 (ix3 0 0 o) = B 4 o)
    (hfw : ∀ f c, fw (ix2 f c) = FW f c) (hfb : ∀ f, fb (ix2 0 f) = FB f) (n : Fin 16) (f : Fin 256) :
    k0_pay1 (F := Ideal) (k0_pay3 (k0_pay2 x w1 b1 w2 b2) w3 b3 w4 b4) w5 b5 fw fb (ix2 n f)
      = feat (kerStack W B H) FW FB n f := by
  rw [pay_eq, fuse_apply]
  have h1 := lay1_apply H (W 0) (B 0) x w1 b1 hx hw1 hb1
  have h2 := lay2_apply _ (W 1) (B 1) _ w2 b2 h1 hw2 hb2
  have h3 := lay3_apply _ (W 2) (B 2) _ w3 b3 h2 hw3 hb3
  have h4 := lay4_apply _ (W 3) (B 3) _ w4 b4 h3 hw4 hb4
  have h5 := lay5_apply _ (W 4) (B 4) _ w5 b5 h4 hw5 hb5
  simp only [h5, hfw, hfb]
  rfl

end Cert.KernelIdeal.Lay

end
-- ==== Proof.RefValue.lean ====
module

public import proofs.«01_k».proof.Proof.RefLayers
public import proofs.«01_k».proof.Proof.RefGate
public import proofs.«01_k».proof.Proof.Stack

/-! The reference's value: the images, the five layers over one another, the features, and a logit of the gate. -/

@[expose] public section

set_option maxRecDepth 16384

noncomputable section

namespace Cert.ReferenceIdeal.Val

open Idealize.ShloMosaic Cert.ReferenceIdeal Cert.ReferenceIdeal.Gen Cert.ReferenceIdeal.Value Cert.Gate Cert.ReferenceIdeal.Lay
open Cert.KernelIdeal.Lay (feat)

/-- The images, from the argument: the sequence and the place in it give the image's number; zero outside. -/
def image (x : FVec Ideal S8x16x1x32x32x256 .f32) : Img := fun n i j c =>
  if h : n < 128 ∧ i < 32 ∧ j < 32 then
    x (ix6 (⟨n / 16, by omega⟩ : Fin 8) (⟨n % 16, by omega⟩ : Fin 16) (0 : Fin 1) (⟨i, h.2.1⟩ : Fin 32) (⟨j, h.2.2⟩ : Fin 32) c)
  else 0

theorem image_apply (x : FVec Ideal S8x16x1x32x32x256 .f32) (n : Fin 128) (i j : Fin 32) (c : Fin 256) :
    image x n i j c = x (ix6 (⟨n.val / 16, by omega⟩ : Fin 8) (⟨n.val % 16, by omega⟩ : Fin 16) (0 : Fin 1) i j c) :=
  dif_pos ⟨n.isLt, i.isLt, j.isLt⟩

theorem image_real {x : FVec Ideal S8x16x1x32x32x256 .f32} (hx : ∀ i, IsReal (x i)) : (image x).Real := fun n i j c => by
  unfold image
  split
  · exact hx _
  · exact IsReal.zero

/-- Five layers over one another. -/
def stack (w : Fin 5 → Fin 256 → Fin 256 → Fin 2 → Fin 2 → EReal) (b g be : Fin 5 → Fin 256 → EReal) (H : Img) : Img :=
  refLayer κ (w 4) (b 4) (g 4) (be 4) (refLayer κ (w 3) (b 3) (g 3) (be 3) (refLayer κ (w 2) (b 2) (g 2) (be 2)
    (refLayer κ (w 1) (b 1) (g 1) (be 1) (refLayer κ (w 0) (b 0) (g 0) (be 0) H))))

/-- The images, channels first. -/
def first (x : FVec Ideal S8x16x1x32x32x256 .f32) : FVec Ideal S128x256x32x32 .f32 :=
  shapeCast S128x256x32x32 (transpose S8x16x1x256x32x32 [0, 1, 2, 5, 3, 4] x
    transposes_S8x16x1x32x32x256_S8x16x1x256x32x32_0_1_2_5_3_4) shapeCasts_S8x16x1x256x32x32_S128x256x32x32

theorem first_apply (x : FVec Ideal S8x16x1x32x32x256 .f32) (n : Fin 128) (c : Fin 256) (i j : Fin 32) :
    first x (ix4 n c i j) = image x n i j c := by
  rw [image_apply]
  pointwise [first]

/-- The features of a sequence, channels before places. -/
def feats (h : FVec Ideal S128x256x1x1 .f32) (fw : FVec Ideal S256x256 .f32) (fb : FVec Ideal S256 .f32) : FVec Ideal S8x256x16 .f32 :=
  transpose S8x256x16 [0, 2, 1] (addf (Host.dotGeneral dot_S8x16x256_S256x256_S8x16x256_2_0_01_1_n_n none
      (shapeCast S8x16x256 h shapeCasts_S128x256x1x1_S8x16x256)
      (transpose S256x256 [1, 0] fw transposes_S256x256_S256x256_1_0))
    (broadcastInDim S8x16x256 ![0, 1, 2] bcast_S1x1x256_S8x16x256_0_1_2
      (broadcastInDim S1x1x256 ![2] bcast_S256_S1x1x256_2 fb))) transposes_S8x16x256_S8x256x16_0_2_1

theorem feats_apply (h : FVec Ideal S128x256x1x1 .f32) (fw : FVec Ideal S256x256 .f32) (fb : FVec Ideal S256 .f32) (H5 : Img)
    (hh : ∀ (n : Fin 128) (c : Fin 256) (i j : Fin 1), h (ix4 n c i j) = H5 n i j c) (b : Fin 8) (d : Fin 256) (s : Fin 16) :
    feats h fw fb (ix3 b d s) = feat H5 (fun f c => fw (ix2 f c)) (vec fb) (b.val * 16 + s.val) d := by
  unfold feat vec
  pointwise [feats]
  simp only [hh]
  rfl

/-- The cosines' table. -/
def cosT : FVec Ideal S16x8 .f32 := fun i => FloatOps.ofBits .f32 (lit0 (S16x8.rowMajor i))

/-- The sines' table. -/
def sinT : FVec Ideal S16x8 .f32 := fun i => FloatOps.ofBits .f32 (lit1 (S16x8.rowMajor i))

/-- The mean over the channels of the weighted amplitudes. -/
def means (f : FVec Ideal S8x256x16 .f32) (tc ts : FVec Ideal S16x8 .f32) (wg : FVec Ideal S8x6 .f32) : FVec Ideal S8x6 .f32 :=
  Host.divf (Host.reduceAdd (Host.dotGeneral dot_S8x256x8_S8x6_S8x256x6_2_0_01_1_n_n none
      (Host.sqrt (addf
        (mulf (Host.dotGeneral dot_S8x256x16_S16x8_S8x256x8_2_0_01_1_n_n none f tc)
          (Host.dotGeneral dot_S8x256x16_S16x8_S8x256x8_2_0_01_1_n_n none f tc))
        (mulf (Host.dotGeneral dot_S8x256x16_S16x8_S8x256x8_2_0_01_1_n_n none f ts)
          (Host.dotGeneral dot_S8x256x16_S16x8_S8x256x8_2_0_01_1_n_n none f ts)))) wg)
      (constant S_ .f32 0x00000000#32) reducesTo_S8x256x6_S8x6_d1 h_S_)
    (broadcastInDim S8x6 ![] bcast_S_S8x6 (constant S_ .f32 0x43800000#32))

/-- A frequency's amplitude in a channel of a sequence. -/
def amp (f : Fin 256 → Fin 16 → EReal) (tc ts : Fin 16 → Fin 8 → EReal) (d : Fin 256) (k : Fin 8) : EReal :=
  Ideal.sqrt ((∑ s, f d s * tc s k) * (∑ s, f d s * tc s k) + (∑ s, f d s * ts s k) * (∑ s, f d s * ts s k))

theorem means_apply (f : FVec Ideal S8x256x16 .f32) (tc ts : FVec Ideal S16x8 .f32) (wg : FVec Ideal S8x6 .f32) (b : Fin 8) (e : Fin 6) :
    means f tc ts wg (ix2 b e) = Ideal.div (∑ d : Fin 256, ∑ k : Fin 8,
      amp (fun d s => f (ix3 b d s)) (fun s k => tc (ix2 s k)) (fun s k => ts (ix2 s k)) d k * wg (ix2 k e)) (Ideal.ofBits .f32 0x43800000#32) := by
  unfold amp
  pointwise [means]

variable (V0 : Valuation τ sig (Elt Ideal))

theorem v1_eq : res_main_v1 V0 = first (V0 (Proc.devRef .tc main_arg0)) := rfl

theorem v38_eq : res_main_v38 V0 = lay1 (res_main_v1 V0) (V0 (Proc.devRef .tc main_arg1)) (V0 (Proc.devRef .tc main_arg2))
    (V0 (Proc.devRef .tc main_arg3)) (V0 (Proc.devRef .tc main_arg4)) := rfl

theorem v75_eq : res_main_v75 V0 = lay2 (res_main_v38 V0) (V0 (Proc.devRef .tc main_arg5)) (V0 (Proc.devRef .tc main_arg6))
    (V0 (Proc.devRef .tc main_arg7)) (V0 (Proc.devRef .tc main_arg8)) := rfl

theorem v112_eq : res_main_v112 V0 = lay3 (res_main_v75 V0) (V0 (Proc.devRef .tc main_arg9)) (V0 (Proc.devRef .tc main_arg10))
    (V0 (Proc.devRef .tc main_arg11)) (V0 (Proc.devRef .tc main_arg12)) := rfl

theorem v149_eq : res_main_v149 V0 = lay4 (res_main_v112 V0) (V0 (Proc.devRef .tc main_arg13)) (V0 (Proc.devRef .tc main_arg14))
    (V0 (Proc.devRef .tc main_arg15)) (V0 (Proc.devRef .tc main_arg16)) := rfl

theorem v193_eq : res_main_v193 V0 = feats (lay5 (res_main_v149 V0) (V0 (Proc.devRef .tc main_arg17)) (V0 (Proc.devRef .tc main_arg18))
    (V0 (Proc.devRef .tc main_arg19)) (V0 (Proc.devRef .tc main_arg20))) (V0 (Proc.devRef .tc main_arg21)) (V0 (Proc.devRef .tc main_arg22)) := rfl

theorem v203_eq : res_main_v203 V0 = means (res_main_v193 V0) cosT sinT (V0 (Proc.devRef .tc main_arg23)) := rfl

/-- The weights, the biases, the scales and the shifts of the five layers, from the arguments. -/
def W : Fin 5 → Fin 256 → Fin 256 → Fin 2 → Fin 2 → EReal :=
  ![wt (V0 (Proc.devRef .tc main_arg1)), wt (V0 (Proc.devRef .tc main_arg5)), wt (V0 (Proc.devRef .tc main_arg9)),
    wt (V0 (Proc.devRef .tc main_arg13)), wt (V0 (Proc.devRef .tc main_arg17))]

def B : Fin 5 → Fin 256 → EReal :=
  ![vec (V0 (Proc.devRef .tc main_arg2)), vec (V0 (Proc.devRef .tc main_arg6)), vec (V0 (Proc.devRef .tc main_arg10)),
    vec (V0 (Proc.devRef .tc main_arg14)), vec (V0 (Proc.devRef .tc main_arg18))]

def G : Fin 5 → Fin 256 → EReal :=
  ![vec (V0 (Proc.devRef .tc main_arg3)), vec (V0 (Proc.devRef .tc main_arg7)), vec (V0 (Proc.devRef .tc main_arg11)),
    vec (V0 (Proc.devRef .tc main_arg15)), vec (V0 (Proc.devRef .tc main_arg19))]

def E : Fin 5 → Fin 256 → EReal :=
  ![vec (V0 (Proc.devRef .tc main_arg4)), vec (V0 (Proc.devRef .tc main_arg8)), vec (V0 (Proc.devRef .tc main_arg12)),
    vec (V0 (Proc.devRef .tc main_arg16)), vec (V0 (Proc.devRef .tc main_arg20))]

/-- A feature of a sequence. -/
theorem v193_apply (b : Fin 8) (d : Fin 256) (s : Fin 16) :
    (res_main_v193 V0 : FVec Ideal S8x256x16 .f32) (ix3 b d s)
      = feat (stack (W V0) (B V0) (G V0) (E V0) (image (V0 (Proc.devRef .tc main_arg0))))
        (fun f c => (V0 (Proc.devRef .tc main_arg21) : FVec Ideal S256x256 .f32) (ix2 f c)) (vec (V0 (Proc.devRef .tc main_arg22)))
        (b.val * 16 + s.val) d := by
  rw [v193_eq]
  refine feats_apply _ _ _ _ (fun n c i j => lay5_apply _ _ _ _ _ _ (fun n c i j => ?_) n c i j) b d s
  rw [v149_eq]
  refine lay4_apply _ _ _ _ _ _ (fun n c i j => ?_) n c i j
  rw [v112_eq]
  refine lay3_apply _ _ _ _ _ _ (fun n c i j => ?_) n c i j
  rw [v75_eq]
  refine lay2_apply _ _ _ _ _ _ (fun n c i j => ?_) n c i j
  rw [v38_eq]
  refine lay1_apply _ _ _ _ _ _ (fun n c i j => ?_) n c i j
  rw [v1_eq]
  exact first_apply _ n c i j

/-- A logit of the gate. -/
theorem v203_apply (b : Fin 8) (e : Fin 6) :
    (res_main_v203 V0 : FVec Ideal S8x6 .f32) (ix2 b e)
      = Ideal.div (∑ d : Fin 256, ∑ k : Fin 8,
        amp (fun d s => feat (stack (W V0) (B V0) (G V0) (E V0) (image (V0 (Proc.devRef .tc main_arg0))))
          (fun f c => (V0 (Proc.devRef .tc main_arg21) : FVec Ideal S256x256 .f32) (ix2 f c)) (vec (V0 (Proc.devRef .tc main_arg22)))
          (b.val * 16 + s.val) d) (fun s k => cosT (ix2 s k)) (fun s k => sinT (ix2 s k)) d k
          * (V0 (Proc.devRef .tc main_arg23) : FVec Ideal S8x6 .f32) (ix2 k e)) (Ideal.ofBits .f32 0x43800000#32) := by
  rw [v203_eq, means_apply]
  simp only [v193_apply]

end Cert.ReferenceIdeal.Val

end
-- ==== Proof.HostValues.lean ====
module

public import proofs.«01_k».proof.Proof.Layer
public import proofs.«01_k».proof.Proof.Gen.KernelIdeal.Launch
public import Idealize.ShloMosaic.Lib.StableHlo.ReadAt
public import Idealize.ShloMosaic.Lib.Pointwise

/-! What the host code hands to the two calls: the weights of the patches, the biases, the tables. -/

@[expose] public section

set_option maxRecDepth 16384

noncomputable section

namespace Cert.KernelIdeal.HostV

open Idealize.ShloMosaic Cert.KernelIdeal Cert.KernelIdeal.Gen Cert.Gate

/-- A weight array as a function of output channel, input channel, row tap and column tap. -/
def wt (w : FVec Ideal S256x256x2x2 .f32) : Fin 256 → Fin 256 → Fin 2 → Fin 2 → EReal :=
  fun o c p q => w (ix4 o c p q)

/-- A channel vector as a function of the channel. -/
def vec (v : FVec Ideal S256 .f32) : Fin 256 → EReal := fun o => v (ix1 o)

/-- The normalisation's constant factor. -/
abbrev κ : EReal := Ideal.ofBits .f32 0x3F7FFFAC#32

variable (σ : Valuation τ sig (Elt Ideal))

/-- The weights of a patch, layer 1. -/
theorem w1 (k : Fin 1024) (o : Fin 256) :
    (StableHlo.after hostOps0 σ (Proc.devRef .tc main_v7) : FVec Ideal S1024x256 .f32) (ix2 k o)
      = foldW κ (wt (σ (Proc.devRef .tc main_arg1))) (vec (σ (Proc.devRef .tc main_arg3))) k o := by
  unfold foldW wt vec
  after_reads_at

/-- The bias, layer 1. -/
theorem b1 (o : Fin 256) :
    (StableHlo.after hostOps0 σ (Proc.devRef .tc main_v62) : FVec Ideal S5x1x256 .f32) (ix3 0 0 o)
      = foldB κ (vec (σ (Proc.devRef .tc main_arg2))) (vec (σ (Proc.devRef .tc main_arg3)))
        (vec (σ (Proc.devRef .tc main_arg4))) o := by
  unfold foldB vec
  after_reads_at
  after_reads_at

/-- The weights of a patch, layer 2. -/
theorem w2 (k : Fin 1024) (o : Fin 256) :
    (StableHlo.after hostOps0 σ (Proc.devRef .tc main_v14) : FVec Ideal S1024x256 .f32) (ix2 k o)
      = foldW κ (wt (σ (Proc.devRef .tc main_arg5))) (vec (σ (Proc.devRef .tc main_arg7))) k o := by
  unfold foldW wt vec
  after_reads_at

/-- The bias, layer 2. -/
theorem b2 (o : Fin 256) :
    (StableHlo.after hostOps0 σ (Proc.devRef .tc main_v62) : FVec Ideal S5x1x256 .f32) (ix3 1 0 o)
      = foldB κ (vec (σ (Proc.devRef .tc main_arg6))) (vec (σ (Proc.devRef .tc main_arg7)))
        (vec (σ (Proc.devRef .tc main_arg8))) o := by
  unfold foldB vec
  after_reads_at
  after_reads_at

/-- The weights of a patch, layer 3. -/
theorem w3 (k : Fin 1024) (o : Fin 256) :
    (StableHlo.after hostOps0 σ (Proc.devRef .tc main_v21) : FVec Ideal S1024x256 .f32) (ix2 k o)
      = foldW κ (wt (σ (Proc.devRef .tc main_arg9))) (vec (σ (Proc.devRef .tc main_arg11))) k o := by
  unfold foldW wt vec
  after_reads_at

/-- The bias, layer 3. -/
theorem b3 (o : Fin 256) :
    (StableHlo.after hostOps0 σ (Proc.devRef .tc main_v62) : FVec Ideal S5x1x256 .f32) (ix3 2 0 o)
      = foldB κ (vec (σ (Proc.devRef .tc main_arg10))) (vec (σ (Proc.devRef .tc main_arg11)))
        (vec (σ (Proc.devRef .tc main_arg12))) o := by
  unfold foldB vec
  after_reads_at
  after_reads_at

/-- The weights of a patch, layer 4. -/
theorem w4 (k : Fin 1024) (o : Fin 256) :
    (StableHlo.after hostOps0 σ (Proc.devRef .tc main_v28) : FVec Ideal S1024x256 .f32) (ix2 k o)
      = foldW κ (wt (σ (Proc.devRef .tc main_arg13))) (vec (σ (Proc.devRef .tc main_arg15))) k o := by
  unfold foldW wt vec
  after_reads_at

/-- The bias, layer 4. -/
theorem b4 (o : Fin 256) :
    (StableHlo.after hostOps0 σ (Proc.devRef .tc main_v62) : FVec Ideal S5x1x256 .f32) (ix3 3 0 o)
      = foldB κ (vec (σ (Proc.devRef .tc main_arg14))) (vec (σ (Proc.devRef .tc main_arg15)))
        (vec (σ (Proc.devRef .tc main_arg16))) o := by
  unfold foldB vec
  after_reads_at
  after_reads_at

/-- The weights of a patch, layer 5. -/
theorem w5 (k : Fin 1024) (o : Fin 256) :
    (StableHlo.after hostOps0 σ (Proc.devRef .tc main_v35) : FVec Ideal S1024x256 .f32) (ix2 k o)
      = foldW κ (wt (σ (Proc.devRef .tc main_arg17))) (vec (σ (Proc.devRef .tc main_arg19))) k o := by
  unfold foldW wt vec
  after_reads_at

/-- The bias, layer 5. -/
theorem b5 (o : Fin 256) :
    (StableHlo.after hostOps0 σ (Proc.devRef .tc main_v62) : FVec Ideal S5x1x256 .f32) (ix3 4 0 o)
      = foldB κ (vec (σ (Proc.devRef .tc main_arg18))) (vec (σ (Proc.devRef .tc main_arg19)))
        (vec (σ (Proc.devRef .tc main_arg20))) o := by
  unfold foldB vec
  after_reads_at
  after_reads_at

/-- The images. -/
theorem img (n : Fin 128) (i j : Fin 32) (k : Fin 256) :
    (StableHlo.after hostOps0 σ (Proc.devRef .tc main_v0) : FVec Ideal S128x32x32x256 .f32) (ix4 n i j k)
      = (σ (Proc.devRef .tc main_arg0) : FVec Ideal S8x16x1x32x32x256 .f32)
        (ix6 ⟨n.val / 16, by omega⟩ ⟨n.val % 16, by omega⟩ 0 i j k) := by
  after_reads_at

/-- The bias of the features. -/
theorem fb (f : Fin 256) :
    (StableHlo.after hostOps0 σ (Proc.devRef .tc main_v63) : FVec Ideal S1x256 .f32) (ix2 0 f)
      = vec (σ (Proc.devRef .tc main_arg22)) f := by
  unfold vec
  after_reads_at

/-- The weight of the features. -/
theorem fw : StableHlo.after hostOps0 σ (Proc.devRef .tc main_arg21) = σ (Proc.devRef .tc main_arg21) := by
  after_reads_simp

/-- The weight of the gate. -/
theorem wg : StableHlo.after hostOps0 σ (Proc.devRef .tc main_arg23) = σ (Proc.devRef .tc main_arg23) := by
  after_reads_simp

/-- The table of the cosines. -/
def cosT : FVec Ideal S16x8 .f32 := fun i => FloatOps.ofBits .f32 (lit0 (S16x8.rowMajor i))

/-- The table of the sines. -/
def sinT : FVec Ideal S16x8 .f32 := fun i => FloatOps.ofBits .f32 (lit1 (S16x8.rowMajor i))

/-- The cosines. -/
theorem tc : (StableHlo.after hostOps0 σ (Proc.devRef .tc main_cst) : FVec Ideal S16x8 .f32)
    = cosT := by
  after_reads_simp
  rfl

/-- The sines. -/
theorem ts : (StableHlo.after hostOps0 σ (Proc.devRef .tc main_cst_0) : FVec Ideal S16x8 .f32)
    = sinT := by
  after_reads_simp
  rfl

/-- The features, cut into sequences. -/
theorem seq (b : Fin 8) (s : Fin 16) (d : Fin 256) :
    (StableHlo.after hostOps1 σ (Proc.devRef .tc main_v65) : FVec Ideal S8x16x256 .f32) (ix3 b s d)
      = (σ (Proc.devRef .tc main_v64) : FVec Ideal S128x256 .f32) (ix2 ⟨b.val * 16 + s.val, by omega⟩ d) := by
  after_reads_at

/-- The counts, without the leading axis. -/
theorem cnt (e : Fin 6) :
    (StableHlo.after hostOps2 σ (Proc.devRef .tc main_v67) : IVec S6 32) (ix1 e)
      = (σ (Proc.devRef .tc main_v66_1) : IVec S1x6 32) (ix2 0 e) := by
  after_reads_at

/-- The gates are not touched after the calls. -/
theorem gat : StableHlo.after hostOps2 σ (Proc.devRef .tc main_v66_0) = σ (Proc.devRef .tc main_v66_0) := by
  after_reads_simp

end Cert.KernelIdeal.HostV

end
-- ==== Proof.Logit.lean ====
module

public import proofs.«01_k».proof.Proof.GateRow
public import proofs.«01_k».proof.Proof.RefValue
public import proofs.«01_k».proof.Proof.HostValues

/-! The two logits of a gate are equal on real numbers: the mean of the amplitudes, weighted, is the mean of the weighted
    amplitudes. -/

@[expose] public section

set_option maxRecDepth 16384

noncomputable section

namespace Cert.Gate

open Idealize.ShloMosaic

/-- A word whose exponent field is not full stands for a real number. -/
theorem bits_real (b : BitVec 32) (h : (b.extractLsb' 23 8).toNat ≠ 255) : IsReal (Ideal.ofBits .f32 b) := by
  unfold Ideal.ofBits Ideal.ieee
  dsimp only
  rw [if_neg (by simpa using h)]
  split <;> exact IsReal.coe _

/-- The divisor of the mean. -/
theorem bits_256 : Ideal.ofBits .f32 0x43800000#32 = ((256 : ℝ) : EReal) := by
  simp [Ideal.ofBits, Ideal.ieee, -EReal.coe_mul]; norm_num

/-- The constant of the normalisation is a real number. -/
theorem κ_real : IsReal (Ideal.ofBits .f32 0x3F7FFFAC#32) := bits_real _ (by decide)

/-- Every entry of the table of the cosines is a real number. -/
theorem lit0_real : ∀ i, ((Cert.KernelIdeal.lit0 i).extractLsb' 23 8).toNat ≠ 255 := by decide

/-- Every entry of the table of the sines is a real number. -/
theorem lit1_real : ∀ i, ((Cert.KernelIdeal.lit1 i).extractLsb' 23 8).toNat ≠ 255 := by decide

theorem cosT_real (i : Cert.KernelIdeal.S16x8.Idx) : IsReal (Cert.KernelIdeal.HostV.cosT i) := bits_real _ (lit0_real _)

theorem sinT_real (i : Cert.KernelIdeal.S16x8.Idx) : IsReal (Cert.KernelIdeal.HostV.sinT i) := bits_real _ (lit1_real _)

/-- The two programs' tables are the same. -/
theorem cosT_eq : Cert.ReferenceIdeal.Val.cosT = Cert.KernelIdeal.HostV.cosT := rfl

theorem sinT_eq : Cert.ReferenceIdeal.Val.sinT = Cert.KernelIdeal.HostV.sinT := rfl

open Cert.KernelIdeal.Gat (part logit)

variable {x : Fin 16 → Fin 256 → EReal} {tc ts : Fin 16 → Fin 8 → EReal} {wg : Fin 8 → Fin 6 → EReal}

/-- The two amplitudes are equal. -/
theorem amp_eq (f : Fin 8) (d : Fin 256) :
    Cert.ReferenceIdeal.Val.amp (fun d s => x s d) tc ts d f = Cert.KernelIdeal.Gat.amp x tc ts f d := by
  unfold Cert.ReferenceIdeal.Val.amp Cert.KernelIdeal.Gat.amp part
  simp only [mul_comm (x _ _)]

/-- On real numbers an amplitude is a real number. -/
theorem amp_real (hx : ∀ s d, IsReal (x s d)) (hc : ∀ s f, IsReal (tc s f)) (hs : ∀ s f, IsReal (ts s f)) (f : Fin 8) (d : Fin 256) :
    IsReal (Cert.KernelIdeal.Gat.amp x tc ts f d) := by
  obtain ⟨p, hp⟩ : IsReal (part x tc f d) := IsReal.sum _ _ fun s => (hc s f).mul (hx s d)
  obtain ⟨q, hq⟩ : IsReal (part x ts f d) := IsReal.sum _ _ fun s => (hs s f).mul (hx s d)
  refine ⟨Real.sqrt (p * p + q * q), ?_⟩
  unfold Cert.KernelIdeal.Gat.amp
  rw [hp, hq, ← EReal.coe_mul, ← EReal.coe_mul, ← EReal.coe_add, Ideal.sqrt_coe,
    if_neg (not_lt.mpr (add_nonneg (mul_self_nonneg p) (mul_self_nonneg q)))]

/-- On real numbers the two logits are one real number. -/
theorem logit_eq (hx : ∀ s d, IsReal (x s d)) (hc : ∀ s f, IsReal (tc s f)) (hs : ∀ s f, IsReal (ts s f))
    (hw : ∀ f e, IsReal (wg f e)) (e : Fin 6) :
    logit x tc ts wg e = Ideal.div (∑ d : Fin 256, ∑ k : Fin 8,
        Cert.ReferenceIdeal.Val.amp (fun d s => x s d) tc ts d k * wg k e) (Ideal.ofBits .f32 0x43800000#32)
      ∧ IsReal (logit x tc ts wg e) := by
  choose a ha using amp_real hx hc hs
  choose w hw' using hw
  have h256 : (256 : ℝ) ≠ 0 := by norm_num
  have h1 : logit x tc ts wg e = ((∑ f : Fin 8, w f e * ((∑ d : Fin 256, a f d) * (1 / 256)) : ℝ) : EReal) := by
    unfold logit
    simp only [bits_256, Ideal.div_coe h256, ha, hw', coe_sum, EReal.coe_mul]
  refine ⟨?_, _, h1⟩
  rw [h1]
  simp only [amp_eq, bits_256, Ideal.div_coe h256, ha, hw', ← EReal.coe_mul, ← coe_sum]
  rw [EReal.coe_eq_coe_iff, Finset.sum_comm, Finset.sum_mul]
  refine Finset.sum_congr rfl fun f _ => ?_
  rw [← Finset.sum_mul]
  ring

end Cert.Gate

end
-- ==== Proof.Region0.lean ====
module

public import proofs.«01_k».proof.Proof.Stack
public import proofs.«01_k».proof.Proof.Gen.KernelIdeal.Frame
public import Idealize.ShloMosaic.Lib.Pipeline.ValueKit
public import Idealize.ShloMosaic.Lib.Claim

/-! What the first call's output array holds after the run: the features of the 128 images. -/

@[expose] public section

set_option maxRecDepth 16384

noncomputable section

namespace Cert.KernelIdeal.Reg0

open Idealize.ShloMosaic Cert.KernelIdeal Cert.KernelIdeal.Gen Cert.Gate Cert.KernelIdeal.Lay

variable (V : (c : Dev nD) → (b : Ref sig .tc) → Buf (Elt Ideal) ((c.tc : Thread nD τ).loc b))

/-- The features, in the layout of the output array. -/
def featArr (H : Img) (W : Fin 5 → Fin 1024 → Fin 256 → EReal) (B : Fin 5 → Fin 256 → EReal)
    (FW : Fin 256 → Fin 256 → EReal) (FB : Fin 256 → EReal) : FVec Ideal S128x256 .f32 :=
  fun y => feat (kerStack W B H) FW FB (y 0).val (y 1)

/-- Where each window's block lies, at every point. -/
theorem idx (t : Fin cfg0.N) :
    win0_0.index t = ![t.val, 0, 0, 0] ∧ win0_1.index t = ![0, 0] ∧ win0_2.index t = ![0, 0] ∧ win0_3.index t = ![0, 0]
      ∧ win0_4.index t = ![0, 0] ∧ win0_5.index t = ![0, 0] ∧ win0_6.index t = ![0, 0, 0] ∧ win0_7.index t = ![0, 0]
      ∧ win0_8.index t = ![0, 0] ∧ win0_9.index t = ![t.val, 0] := by
  revert t
  decide

theorem lt8 (t : Fin cfg0.N) : t.val < 8 := t.isLt

/-- The block of images at a point. -/
theorem blk0 (c : Dev nD) (t : Fin cfg0.N) (n : Fin 16) (i j : Fin 32) (k : Fin 256) :
    (iblk0 V c 0 t : FVec Ideal S16x32x32x256 .f32) (ix4 n i j k)
      = (V c (Pipeline.arrRef spec0 0) : FVec Ideal S128x32x32x256 .f32)
        (ix4 ⟨16 * t.val + n.val, by have := lt8 t; omega⟩ i j k) := by
  blk_ext [iblk0, idx t]

/-- The windows over the weights and the biases are the whole arrays. -/
theorem blk1 (c : Dev nD) (t : Fin cfg0.N) (k : Fin 1024) (o : Fin 256) :
    (iblk0 V c 1 t : FVec Ideal S1024x256 .f32) (ix2 k o) = (V c (Pipeline.arrRef spec0 1) : FVec Ideal S1024x256 .f32) (ix2 k o) := by
  blk_ext [iblk0, idx t]

theorem blk2 (c : Dev nD) (t : Fin cfg0.N) (k : Fin 1024) (o : Fin 256) :
    (iblk0 V c 2 t : FVec Ideal S1024x256 .f32) (ix2 k o) = (V c (Pipeline.arrRef spec0 2) : FVec Ideal S1024x256 .f32) (ix2 k o) := by
  blk_ext [iblk0, idx t]

theorem blk3 (c : Dev nD) (t : Fin cfg0.N) (k : Fin 1024) (o : Fin 256) :
    (iblk0 V c 3 t : FVec Ideal S1024x256 .f32) (ix2 k o) = (V c (Pipeline.arrRef spec0 3) : FVec Ideal S1024x256 .f32) (ix2 k o) := by
  blk_ext [iblk0, idx t]

theorem blk4 (c : Dev nD) (t : Fin cfg0.N) (k : Fin 1024) (o : Fin 256) :
    (iblk0 V c 4 t : FVec Ideal S1024x256 .f32) (ix2 k o) = (V c (Pipeline.arrRef spec0 4) : FVec Ideal S1024x256 .f32) (ix2 k o) := by
  blk_ext [iblk0, idx t]

theorem blk5 (c : Dev nD) (t : Fin cfg0.N) (k : Fin 1024) (o : Fin 256) :
    (iblk0 V c 5 t : FVec Ideal S1024x256 .f32) (ix2 k o) = (V c (Pipeline.arrRef spec0 5) : FVec Ideal S1024x256 .f32) (ix2 k o) := by
  blk_ext [iblk0, idx t]

theorem bias0 (c : Dev nD) (t : Fin cfg0.N) (o : Fin 256) :
    (View.ld (iblk0 V c 6 t) r0_2 : FVec Ideal S1x1x256 .f32) (ix3 0 0 o) = (V c (Pipeline.arrRef spec0 6) : FVec Ideal S5x1x256 .f32) (ix3 0 0 o) := by
  pointwise
  blk_ext [iblk0, idx t]

theorem bias1 (c : Dev nD) (t : Fin cfg0.N) (o : Fin 256) :
    (View.ld (iblk0 V c 6 t) r0_3 : FVec Ideal S1x1x256 .f32) (ix3 0 0 o) = (V c (Pipeline.arrRef spec0 6) : FVec Ideal S5x1x256 .f32) (ix3 1 0 o) := by
  pointwise
  blk_ext [iblk0, idx t]

theorem bias2 (c : Dev nD) (t : Fin cfg0.N) (o : Fin 256) :
    (View.ld (iblk0 V c 6 t) r0_4 : FVec Ideal S1x1x256 .f32) (ix3 0 0 o) = (V c (Pipeline.arrRef spec0 6) : FVec Ideal S5x1x256 .f32) (ix3 2 0 o) := by
  pointwise
  blk_ext [iblk0, idx t]

theorem bias3 (c : Dev nD) (t : Fin cfg0.N) (o : Fin 256) :
    (View.ld (iblk0 V c 6 t) r0_5 : FVec Ideal S1x1x256 .f32) (ix3 0 0 o) = (V c (Pipeline.arrRef spec0 6) : FVec Ideal S5x1x256 .f32) (ix3 3 0 o) := by
  pointwise
  blk_ext [iblk0, idx t]

theorem bias4 (c : Dev nD) (t : Fin cfg0.N) (o : Fin 256) :
    (View.ld (iblk0 V c 6 t) r0_6 : FVec Ideal S1x1x256 .f32) (ix3 0 0 o) = (V c (Pipeline.arrRef spec0 6) : FVec Ideal S5x1x256 .f32) (ix3 4 0 o) := by
  pointwise
  blk_ext [iblk0, idx t]

theorem blk7 (c : Dev nD) (t : Fin cfg0.N) (f k : Fin 256) :
    (iblk0 V c 7 t : FVec Ideal S256x256 .f32) (ix2 f k) = (V c (Pipeline.arrRef spec0 7) : FVec Ideal S256x256 .f32) (ix2 f k) := by
  blk_ext [iblk0, idx t]

theorem blk8 (c : Dev nD) (t : Fin cfg0.N) (f : Fin 256) :
    (iblk0 V c 8 t : FVec Ideal S1x256 .f32) (ix2 0 f) = (V c (Pipeline.arrRef spec0 8) : FVec Ideal S1x256 .f32) (ix2 0 f) := by
  blk_ext [iblk0, idx t]

/-- Where an entry of the block that a point stores lies in the output array. -/
theorem emb9 (t : Fin cfg0.N) (n : Fin 16) (f : Fin 256) :
    (((cfg0.win 9).blk t).view.emb (ix2 n f) : S128x256.Idx) = ix2 ⟨16 * t.val + n.val, by have := lt8 t; omega⟩ f := by
  blk_ext [idx t]

/-- A run of images is read like the images themselves, the first one's number added. -/
theorem layer_shift (W : Fin 1024 → Fin 256 → EReal) (B : Fin 256 → EReal) (H : Img) (a : ℕ) :
    kerLayer W B (fun n => H (a + n)) = fun n => kerLayer W B H (a + n) := rfl

theorem feat_shift (W : Fin 5 → Fin 1024 → Fin 256 → EReal) (B : Fin 5 → Fin 256 → EReal)
    (FW : Fin 256 → Fin 256 → EReal) (FB : Fin 256 → EReal) (H : Img) (a n : ℕ) (f : Fin 256) :
    feat (kerStack W B (fun n => H (a + n))) FW FB n f = feat (kerStack W B H) FW FB (a + n) f := by
  unfold kerStack
  simp only [layer_shift]
  rfl

/-- What a point stores, from what the input arrays hold when the call starts. -/
theorem stored (c : Dev nD) (H : Img) (W : Fin 5 → Fin 1024 → Fin 256 → EReal) (B : Fin 5 → Fin 256 → EReal)
    (FW : Fin 256 → Fin 256 → EReal) (FB : Fin 256 → EReal)
    (hx : ∀ n i j k, (V c (Pipeline.arrRef spec0 0) : FVec Ideal S128x32x32x256 .f32) (ix4 n i j k) = H n i j k)
    (hw1 : ∀ k o, (V c (Pipeline.arrRef spec0 1) : FVec Ideal S1024x256 .f32) (ix2 k o) = W 0 k o)
    (hw2 : ∀ k o, (V c (Pipeline.arrRef spec0 2) : FVec Ideal S1024x256 .f32) (ix2 k o) = W 1 k o)
    (hw3 : ∀ k o, (V c (Pipeline.arrRef spec0 3) : FVec Ideal S1024x256 .f32) (ix2 k o) = W 2 k o)
    (hw4 : ∀ k o, (V c (Pipeline.arrRef spec0 4) : FVec Ideal S1024x256 .f32) (ix2 k o) = W 3 k o)
    (hw5 : ∀ k o, (V c (Pipeline.arrRef spec0 5) : FVec Ideal S1024x256 .f32) (ix2 k o) = W 4 k o)
    (hb : ∀ l o, (V c (Pipeline.arrRef spec0 6) : FVec Ideal S5x1x256 .f32) (ix3 l 0 o) = B l o)
    (hfw : ∀ f k, (V c (Pipeline.arrRef spec0 7) : FVec Ideal S256x256 .f32) (ix2 f k) = FW f k)
    (hfb : ∀ f, (V c (Pipeline.arrRef spec0 8) : FVec Ideal S1x256 .f32) (ix2 0 f) = FB f)
    (t : Fin cfg0.N) (n : Fin 16) (f : Fin 256) :
    k0_pay1 (F := Ideal)
      (k0_pay3
        (k0_pay2 (iblk0 V c 0 t) (iblk0 V c 1 t) (View.ld (iblk0 V c 6 t) r0_2) (iblk0 V c 2 t)
          (View.ld (iblk0 V c 6 t) r0_3))
        (iblk0 V c 3 t) (View.ld (iblk0 V c 6 t) r0_4) (iblk0 V c 4 t) (View.ld (iblk0 V c 6 t) r0_5))
      (iblk0 V c 5 t) (View.ld (iblk0 V c 6 t) r0_6) (iblk0 V c 7 t) (iblk0 V c 8 t) (ix2 n f)
      = feat (kerStack W B H) FW FB (16 * t.val + n.val) f :=
  (pay_apply (fun n => H (16 * t.val + n)) W B FW FB _ _ _ _ _ _ _ _ _ _ _ _ _
    (fun n i j k => (blk0 V c t n i j k).trans (hx _ _ _ _))
    (fun k o => (blk1 V c t k o).trans (hw1 k o)) (fun k o => (blk2 V c t k o).trans (hw2 k o))
    (fun k o => (blk3 V c t k o).trans (hw3 k o)) (fun k o => (blk4 V c t k o).trans (hw4 k o))
    (fun k o => (blk5 V c t k o).trans (hw5 k o))
    (fun o => (bias0 V c t o).trans (hb 0 o)) (fun o => (bias1 V c t o).trans (hb 1 o))
    (fun o => (bias2 V c t o).trans (hb 2 o)) (fun o => (bias3 V c t o).trans (hb 3 o))
    (fun o => (bias4 V c t o).trans (hb 4 o))
    (fun f k => (blk7 V c t f k).trans (hfw f k)) (fun f => (blk8 V c t f).trans (hfb f)) n f).trans
    (feat_shift W B FW FB H _ n f)

/-- The output array after the run, from what the input arrays hold when the call starts. -/
theorem arr9 (c : Dev nD) (H : Img) (W : Fin 5 → Fin 1024 → Fin 256 → EReal) (B : Fin 5 → Fin 256 → EReal)
    (FW : Fin 256 → Fin 256 → EReal) (FB : Fin 256 → EReal)
    (hx : ∀ n i j k, (V c (Pipeline.arrRef spec0 0) : FVec Ideal S128x32x32x256 .f32) (ix4 n i j k) = H n i j k)
    (hw1 : ∀ k o, (V c (Pipeline.arrRef spec0 1) : FVec Ideal S1024x256 .f32) (ix2 k o) = W 0 k o)
    (hw2 : ∀ k o, (V c (Pipeline.arrRef spec0 2) : FVec Ideal S1024x256 .f32) (ix2 k o) = W 1 k o)
    (hw3 : ∀ k o, (V c (Pipeline.arrRef spec0 3) : FVec Ideal S1024x256 .f32) (ix2 k o) = W 2 k o)
    (hw4 : ∀ k o, (V c (Pipeline.arrRef spec0 4) : FVec Ideal S1024x256 .f32) (ix2 k o) = W 3 k o)
    (hw5 : ∀ k o, (V c (Pipeline.arrRef spec0 5) : FVec Ideal S1024x256 .f32) (ix2 k o) = W 4 k o)
    (hb : ∀ l o, (V c (Pipeline.arrRef spec0 6) : FVec Ideal S5x1x256 .f32) (ix3 l 0 o) = B l o)
    (hfw : ∀ f k, (V c (Pipeline.arrRef spec0 7) : FVec Ideal S256x256 .f32) (ix2 f k) = FW f k)
    (hfb : ∀ f, (V c (Pipeline.arrRef spec0 8) : FVec Ideal S1x256 .f32) (ix2 0 f) = FB f) :
    (dat0 V c).arrAt 9 cfg0.N = featArr H W B FW FB := by
  refine (dat0 V c).arrAt_eq_of_covers 9 _ (by decide +kernel) fun t hf y => ?_
  blk_simp
  rw [after0_9]
  frame_out
  obtain ⟨n, f, rfl⟩ : ∃ (n : Fin 16) (f : Fin 256), y = ix2 n f := ⟨y 0, y 1, by funext k; fin_cases k <;> rfl⟩
  refine (stored V c H W B FW FB hx hw1 hw2 hw3 hw4 hw5 hb hfw hfb t n f).trans ?_
  exact (congrArg (featArr H W B FW FB) (emb9 t n f)).symm

end Cert.KernelIdeal.Reg0

end
-- ==== Proof.Region1.lean ====
module

public import proofs.«01_k».proof.Proof.GateRow
public import Idealize.ShloMosaic.Lib.Pipeline.ValueKit

/-! What the second call's two output arrays hold after its run: the gates and their counts, from what its four input
    arrays hold when the call starts. -/

@[expose] public section

set_option maxRecDepth 16384

noncomputable section

namespace Cert.KernelIdeal.Reg1

open Idealize.ShloMosaic Cert.KernelIdeal Cert.KernelIdeal.Gen Cert.Gate Cert.KernelIdeal.Gat

/-- The gates of the call, from the features, the two tables and the gate's weights. -/
def gates (x : FVec Ideal S8x16x256 .f32) (tc ts : FVec Ideal S16x8 .f32) (wg : FVec Ideal S8x6 .f32) : FVec Ideal S8x6 .f32 :=
  k1_pay1 (F := Ideal) (k1_pay33 (F := Ideal) x tc ts wg) (k1_pay34 (F := Ideal) x tc ts wg)
    (k1_pay35 (F := Ideal) x tc ts wg) (k1_pay36 (F := Ideal) x tc ts wg)

/-- The counts of the call. -/
def load (x : FVec Ideal S8x16x256 .f32) (tc ts : FVec Ideal S16x8 .f32) (wg : FVec Ideal S8x6 .f32) : IVec S1x6 32 :=
  k1_pay2 (F := Ideal) (k1_pay33 (F := Ideal) x tc ts wg) (k1_pay34 (F := Ideal) x tc ts wg)
    (k1_pay35 (F := Ideal) x tc ts wg) (k1_pay36 (F := Ideal) x tc ts wg)

variable (V : (c : Dev nD) → (b : Ref sig .tc) → Buf (Elt Ideal) ((c.tc : Thread nD τ).loc b))

/-- Every window is its whole array. -/
theorem idx (t : Fin cfg1.N) :
    win1_0.index t = ![0, 0, 0] ∧ win1_1.index t = ![0, 0] ∧ win1_2.index t = ![0, 0] ∧ win1_3.index t = ![0, 0]
      ∧ win1_4.index t = ![0, 0] ∧ win1_5.index t = ![0, 0] := by
  revert t
  decide

theorem blk0 (c : Dev nD) (t : Fin cfg1.N) :
    (iblk1 V c 0 t : FVec Ideal S8x16x256 .f32) = (V c (Pipeline.arrRef spec1 0) : FVec Ideal S8x16x256 .f32) := by
  funext y
  blk_ext [iblk1, idx t]

theorem blk1 (c : Dev nD) (t : Fin cfg1.N) :
    (iblk1 V c 1 t : FVec Ideal S16x8 .f32) = (V c (Pipeline.arrRef spec1 1) : FVec Ideal S16x8 .f32) := by
  funext y
  blk_ext [iblk1, idx t]

theorem blk2 (c : Dev nD) (t : Fin cfg1.N) :
    (iblk1 V c 2 t : FVec Ideal S16x8 .f32) = (V c (Pipeline.arrRef spec1 2) : FVec Ideal S16x8 .f32) := by
  funext y
  blk_ext [iblk1, idx t]

theorem blk3 (c : Dev nD) (t : Fin cfg1.N) :
    (iblk1 V c 3 t : FVec Ideal S8x6 .f32) = (V c (Pipeline.arrRef spec1 3) : FVec Ideal S8x6 .f32) := by
  funext y
  blk_ext [iblk1, idx t]

theorem emb4 (t : Fin cfg1.N) (b : Fin 8) (e : Fin 6) :
    (((cfg1.win 4).blk t).view.emb (ix2 b e) : S8x6.Idx) = ix2 b e := by
  blk_ext [idx t]

theorem emb5 (t : Fin cfg1.N) (e : Fin 6) :
    (((cfg1.win 5).blk t).view.emb (ix2 0 e) : S1x6.Idx) = ix2 0 e := by
  blk_ext [idx t]

/-- The array of gates after the run. -/
theorem arr4 (c : Dev nD) (x : FVec Ideal S8x16x256 .f32) (tc ts : FVec Ideal S16x8 .f32) (wg : FVec Ideal S8x6 .f32)
    (hx : (V c (Pipeline.arrRef spec1 0) : FVec Ideal S8x16x256 .f32) = x)
    (htc : (V c (Pipeline.arrRef spec1 1) : FVec Ideal S16x8 .f32) = tc)
    (hts : (V c (Pipeline.arrRef spec1 2) : FVec Ideal S16x8 .f32) = ts)
    (hwg : (V c (Pipeline.arrRef spec1 3) : FVec Ideal S8x6 .f32) = wg) :
    (dat1 V c).arrAt 4 cfg1.N = gates x tc ts wg := by
  refine (dat1 V c).arrAt_eq_of_covers 4 _ (by decide +kernel) fun t hf y => ?_
  blk_simp
  rw [after1_4]
  obtain ⟨b, e, rfl⟩ : ∃ (b : Fin 8) (e : Fin 6), y = ix2 b e := ⟨y 0, y 1, by funext k; fin_cases k <;> rfl⟩
  rw [(blk0 V c t).trans hx, (blk1 V c t).trans htc, (blk2 V c t).trans hts, (blk3 V c t).trans hwg]
  frame_out
  exact (congrArg (gates x tc ts wg) (emb4 t b e)).symm

/-- The array of counts after the run. -/
theorem arr5 (c : Dev nD) (x : FVec Ideal S8x16x256 .f32) (tc ts : FVec Ideal S16x8 .f32) (wg : FVec Ideal S8x6 .f32)
    (hx : (V c (Pipeline.arrRef spec1 0) : FVec Ideal S8x16x256 .f32) = x)
    (htc : (V c (Pipeline.arrRef spec1 1) : FVec Ideal S16x8 .f32) = tc)
    (hts : (V c (Pipeline.arrRef spec1 2) : FVec Ideal S16x8 .f32) = ts)
    (hwg : (V c (Pipeline.arrRef spec1 3) : FVec Ideal S8x6 .f32) = wg) :
    (dat1 V c).arrAt 5 cfg1.N = load x tc ts wg := by
  refine (dat1 V c).arrAt_eq_of_covers 5 _ (by decide +kernel) fun t hf y => ?_
  blk_simp
  rw [after1_5]
  obtain ⟨e, rfl⟩ : ∃ (e : Fin 6), y = ix2 0 e := ⟨y 1, by funext k; fin_cases k <;> [exact Subsingleton.elim (α := Fin 1) _ _; rfl]⟩
  rw [(blk0 V c t).trans hx, (blk1 V c t).trans htc, (blk2 V c t).trans hts, (blk3 V c t).trans hwg]
  frame_out
  exact (congrArg (load x tc ts wg) (emb5 t e)).symm

end Cert.KernelIdeal.Reg1

end
-- ==== Proof.KernelValue.lean ====
module

public import proofs.«01_k».proof.Proof.Region0
public import proofs.«01_k».proof.Proof.Region1
public import proofs.«01_k».proof.Proof.HostValues
public import proofs.«01_k».proof.Proof.RefValue

/-! The kernel's two results from its arguments: the host code, the first call, the cut into sequences, the second call. -/

@[expose] public section

set_option maxRecDepth 16384

noncomputable section

namespace Cert.KernelIdeal.Val

open Idealize.ShloMosaic Cert.KernelIdeal Cert.KernelIdeal.Gen Cert.Gate Cert.KernelIdeal.Lay
open Cert.ReferenceIdeal.Val (image image_apply stack)

section Args

variable (σ : Valuation τ sig (Elt Ideal))

/-- The weights, the biases, the scales and the shifts of the five layers, from the arguments. -/
def W : Fin 5 → Fin 256 → Fin 256 → Fin 2 → Fin 2 → EReal :=
  ![HostV.wt (σ (Proc.devRef .tc main_arg1)), HostV.wt (σ (Proc.devRef .tc main_arg5)), HostV.wt (σ (Proc.devRef .tc main_arg9)), HostV.wt (σ (Proc.devRef .tc main_arg13)), HostV.wt (σ (Proc.devRef .tc main_arg17))]

def B : Fin 5 → Fin 256 → EReal :=
  ![HostV.vec (σ (Proc.devRef .tc main_arg2)), HostV.vec (σ (Proc.devRef .tc main_arg6)), HostV.vec (σ (Proc.devRef .tc main_arg10)), HostV.vec (σ (Proc.devRef .tc main_arg14)), HostV.vec (σ (Proc.devRef .tc main_arg18))]

def G : Fin 5 → Fin 256 → EReal :=
  ![HostV.vec (σ (Proc.devRef .tc main_arg3)), HostV.vec (σ (Proc.devRef .tc main_arg7)), HostV.vec (σ (Proc.devRef .tc main_arg11)), HostV.vec (σ (Proc.devRef .tc main_arg15)), HostV.vec (σ (Proc.devRef .tc main_arg19))]

def E : Fin 5 → Fin 256 → EReal :=
  ![HostV.vec (σ (Proc.devRef .tc main_arg4)), HostV.vec (σ (Proc.devRef .tc main_arg8)), HostV.vec (σ (Proc.devRef .tc main_arg12)), HostV.vec (σ (Proc.devRef .tc main_arg16)), HostV.vec (σ (Proc.devRef .tc main_arg20))]

/-- The images, the features' weight and their bias. -/
def H : Img := image (σ (Proc.devRef .tc main_arg0))

def FW : Fin 256 → Fin 256 → EReal := fun f k => (σ (Proc.devRef .tc main_arg21) : FVec Ideal S256x256 .f32) (ix2 f k)

def FB : Fin 256 → EReal := HostV.vec (σ (Proc.devRef .tc main_arg22))

/-- The weight of the gate. -/
def WG : FVec Ideal S8x6 .f32 := σ (Proc.devRef .tc main_arg23)

/-- The weights of the patches and the folded biases of the five layers. -/
def KW : Fin 5 → Fin 1024 → Fin 256 → EReal := fun l => foldW HostV.κ (W σ l) (G σ l)

def KB : Fin 5 → Fin 256 → EReal := fun l => foldB HostV.κ (B σ l) (G σ l) (E σ l)

end Args

variable (m : (ℓ : Loc nD τ sig) → Buf (Elt Ideal) ℓ) (ρ : Dev nD → PrngReg) (c : Dev nD)

/-- The features, after the first call. -/
theorem features : (W2 m ρ c (Proc.devRef .tc main_v64) : FVec Ideal S128x256 .f32)
    = Reg0.featArr (H (W0 m ρ c)) (KW (W0 m ρ c)) (KB (W0 m ρ c)) (FW (W0 m ρ c)) (FB (W0 m ρ c)) := by
  refine (W2_arr m ρ c 9).trans ?_
  refine Reg0.arr9 (V1 m ρ) c _ _ _ _ _ (fun n i j k => ?_) (fun k o => HostV.w1 (W0 m ρ c) k o)
    (fun k o => HostV.w2 (W0 m ρ c) k o) (fun k o => HostV.w3 (W0 m ρ c) k o) (fun k o => HostV.w4 (W0 m ρ c) k o)
    (fun k o => HostV.w5 (W0 m ρ c) k o) (fun l o => ?_) (fun f k => ?_) (fun f => HostV.fb (W0 m ρ c) f)
  · exact (HostV.img (W0 m ρ c) n i j k).trans (image_apply _ n i j k).symm
  · fin_cases l
    · exact HostV.b1 (W0 m ρ c) o
    · exact HostV.b2 (W0 m ρ c) o
    · exact HostV.b3 (W0 m ρ c) o
    · exact HostV.b4 (W0 m ρ c) o
    · exact HostV.b5 (W0 m ρ c) o
  · exact congrFun (HostV.fw (W0 m ρ c)) (ix2 f k)

/-- The features, cut into sequences: what the second call reads. -/
def X : FVec Ideal S8x16x256 .f32 := W3 m ρ c (Proc.devRef .tc main_v65)

theorem X_apply (b : Fin 8) (s : Fin 16) (d : Fin 256) :
    X m ρ c (ix3 b s d) = feat (kerStack (KW (W0 m ρ c)) (KB (W0 m ρ c)) (H (W0 m ρ c))) (FW (W0 m ρ c)) (FB (W0 m ρ c))
      (b.val * 16 + s.val) d :=
  (HostV.seq (W2 m ρ c) b s d).trans (congrFun (features m ρ c) _)

theorem tab_c : (W3 m ρ c (Proc.devRef .tc main_cst) : FVec Ideal S16x8 .f32) = HostV.cosT :=
  (W3_of m ρ c main_cst (by decide)).trans ((W2_of m ρ c main_cst (by decide)).trans (HostV.tc (W0 m ρ c)))

theorem tab_s : (W3 m ρ c (Proc.devRef .tc main_cst_0) : FVec Ideal S16x8 .f32) = HostV.sinT :=
  (W3_of m ρ c main_cst_0 (by decide)).trans ((W2_of m ρ c main_cst_0 (by decide)).trans (HostV.ts (W0 m ρ c)))

theorem gate_w : (W3 m ρ c (Proc.devRef .tc main_arg23) : FVec Ideal S8x6 .f32) = WG (W0 m ρ c) :=
  W3_args m ρ c main_arg23 (by decide)

/-- The gates at the end of the run. -/
theorem gates_eq : (W5 m ρ c (Proc.devRef .tc main_v66_0) : FVec Ideal S8x6 .f32)
    = Reg1.gates (X m ρ c) HostV.cosT HostV.sinT (WG (W0 m ρ c)) :=
  (HostV.gat (W4 m ρ c)).trans ((W4_arr m ρ c 4).trans
    (Reg1.arr4 (V3 m ρ) c _ _ _ _ rfl (tab_c m ρ c) (tab_s m ρ c) (gate_w m ρ c)))

/-- The counts at the end of the run. -/
theorem load_eq (e : Fin 6) : (W5 m ρ c (Proc.devRef .tc main_v67) : IVec S6 32) (ix1 e)
    = Reg1.load (X m ρ c) HostV.cosT HostV.sinT (WG (W0 m ρ c)) (ix2 0 e) :=
  (HostV.cnt (W4 m ρ c) e).trans (congrFun ((W4_arr m ρ c 5).trans
    (Reg1.arr5 (V3 m ρ) c _ _ _ _ rfl (tab_c m ρ c) (tab_s m ρ c) (gate_w m ρ c))) _)

end Cert.KernelIdeal.Val

end
-- ==== Proof.Equation.lean ====
module

public import proofs.«01_k».proof.Proof.Logit
public import proofs.«01_k».proof.Proof.KernelValue

/-! The equation: on real arguments the kernel's two results are the reference's. -/

@[expose] public section

set_option maxRecDepth 16384

noncomputable section

namespace Cert.Equation

open Idealize.ShloMosaic Cert.Gate
open Cert.KernelIdeal.Lay (feat kerStack)
open Cert.ReferenceIdeal.Val (stack)

/-- Five layers with the scales folded in are the five layers of the reference, and they keep real entries real. -/
theorem stack_eq {w : Fin 5 → Fin 256 → Fin 256 → Fin 2 → Fin 2 → EReal} {b g be : Fin 5 → Fin 256 → EReal} {H : Img}
    (hw : ∀ l o c p q, IsReal (w l o c p q)) (hb : ∀ l o, IsReal (b l o)) (hg : ∀ l o, IsReal (g l o)) (hbe : ∀ l o, IsReal (be l o))
    (hH : H.Real) :
    kerStack (fun l => foldW Cert.KernelIdeal.HostV.κ (w l) (g l)) (fun l => foldB Cert.KernelIdeal.HostV.κ (b l) (g l) (be l)) H
      = stack w b g be H ∧ (stack w b g be H).Real := by
  have e := fun (l : Fin 5) (H : Img) (hH : H.Real) => kerLayer_eq κ_real (hw l) (hb l) (hg l) (hbe l) hH
  have r := fun (l : Fin 5) (H : Img) (hH : H.Real) => refLayer_real κ_real (hw l) (hb l) (hg l) (hbe l) hH
  have r0 := r 0 H hH
  have r1 := r 1 _ r0
  have r2 := r 2 _ r1
  have r3 := r 3 _ r2
  refine ⟨?_, r 4 _ r3⟩
  unfold kerStack stack
  rw [e 0 H hH, e 1 _ r0, e 2 _ r1, e 3 _ r2, e 4 _ r3]

/-- What the precondition gives: every argument the results depend on is real. -/
structure RealArgs (σ : Valuation Cert.KernelIdeal.τ Cert.KernelIdeal.sig (Elt Ideal)) : Prop where
  H : (Cert.KernelIdeal.Val.H σ).Real
  W : ∀ l o c p q, IsReal (Cert.KernelIdeal.Val.W σ l o c p q)
  B : ∀ l o, IsReal (Cert.KernelIdeal.Val.B σ l o)
  G : ∀ l o, IsReal (Cert.KernelIdeal.Val.G σ l o)
  E : ∀ l o, IsReal (Cert.KernelIdeal.Val.E σ l o)
  FW : ∀ f k, IsReal (Cert.KernelIdeal.Val.FW σ f k)
  FB : ∀ f, IsReal (Cert.KernelIdeal.Val.FB σ f)
  WG : ∀ i, IsReal (Cert.KernelIdeal.Val.WG σ i)

/-- That the reference's arguments are the kernel's. -/
structure Agree (σ : Valuation Cert.KernelIdeal.τ Cert.KernelIdeal.sig (Elt Ideal))
    (σ' : Valuation Cert.ReferenceIdeal.τ Cert.ReferenceIdeal.sig (Elt Ideal)) : Prop where
  H : Cert.ReferenceIdeal.Val.image (σ' (Proc.devRef .tc Cert.ReferenceIdeal.main_arg0)) = Cert.KernelIdeal.Val.H σ
  W : Cert.ReferenceIdeal.Val.W σ' = Cert.KernelIdeal.Val.W σ
  B : Cert.ReferenceIdeal.Val.B σ' = Cert.KernelIdeal.Val.B σ
  G : Cert.ReferenceIdeal.Val.G σ' = Cert.KernelIdeal.Val.G σ
  E : Cert.ReferenceIdeal.Val.E σ' = Cert.KernelIdeal.Val.E σ
  FW : (fun f k => (σ' (Proc.devRef .tc Cert.ReferenceIdeal.main_arg21) : FVec Ideal Cert.ReferenceIdeal.S256x256 .f32) (ix2 f k))
    = Cert.KernelIdeal.Val.FW σ
  FB : Cert.ReferenceIdeal.Lay.vec (σ' (Proc.devRef .tc Cert.ReferenceIdeal.main_arg22)) = Cert.KernelIdeal.Val.FB σ
  WG : (σ' (Proc.devRef .tc Cert.ReferenceIdeal.main_arg23) : FVec Ideal Cert.ReferenceIdeal.S8x6 .f32) = Cert.KernelIdeal.Val.WG σ

section

variable (m : (ℓ : Loc Cert.KernelIdeal.nD Cert.KernelIdeal.τ Cert.KernelIdeal.sig) → Buf (Elt Ideal) ℓ)
  (ρ : Dev Cert.KernelIdeal.nD → PrngReg) (c : Dev Cert.KernelIdeal.nD)
  (σ' : Valuation Cert.ReferenceIdeal.τ Cert.ReferenceIdeal.sig (Elt Ideal))

/-- The kernel's logits of a sequence. -/
def L (b : Fin 8) (e : Fin 6) : EReal :=
  Cert.KernelIdeal.Gat.logit (fun s d => Cert.KernelIdeal.Val.X m ρ c (ix3 b s d)) (fun s f => Cert.KernelIdeal.HostV.cosT (ix2 s f))
    (fun s f => Cert.KernelIdeal.HostV.sinT (ix2 s f)) (fun f e => Cert.KernelIdeal.Val.WG (Cert.KernelIdeal.Gen.W0 m ρ c) (ix2 f e)) e

variable {σ'} (hr : RealArgs (Cert.KernelIdeal.Gen.W0 m ρ c)) (ha : Agree (Cert.KernelIdeal.Gen.W0 m ρ c) σ')

include hr in
/-- The kernel's features are the reference's, and real. -/
theorem X_eq (b : Fin 8) (s : Fin 16) (d : Fin 256) :
    Cert.KernelIdeal.Val.X m ρ c (ix3 b s d) = feat (stack (Cert.KernelIdeal.Val.W (Cert.KernelIdeal.Gen.W0 m ρ c))
        (Cert.KernelIdeal.Val.B (Cert.KernelIdeal.Gen.W0 m ρ c)) (Cert.KernelIdeal.Val.G (Cert.KernelIdeal.Gen.W0 m ρ c))
        (Cert.KernelIdeal.Val.E (Cert.KernelIdeal.Gen.W0 m ρ c)) (Cert.KernelIdeal.Val.H (Cert.KernelIdeal.Gen.W0 m ρ c)))
      (Cert.KernelIdeal.Val.FW (Cert.KernelIdeal.Gen.W0 m ρ c)) (Cert.KernelIdeal.Val.FB (Cert.KernelIdeal.Gen.W0 m ρ c)) (b.val * 16 + s.val) d
      ∧ IsReal (Cert.KernelIdeal.Val.X m ρ c (ix3 b s d)) := by
  have h := stack_eq hr.W hr.B hr.G hr.E hr.H
  have e := Cert.KernelIdeal.Val.X_apply m ρ c b s d
  unfold Cert.KernelIdeal.Val.KW Cert.KernelIdeal.Val.KB at e
  rw [h.1] at e
  refine ⟨e, ?_⟩
  rw [e]
  exact (IsReal.sum _ _ fun k => (h.2 _ _ _ k).mul (hr.FW d k)).add (hr.FB d)

include hr in
theorem L_real (b : Fin 8) (e : Fin 6) : IsReal (L m ρ c b e) :=
  (logit_eq (fun s d => (X_eq m ρ c hr b s d).2) (fun _ _ => cosT_real _) (fun _ _ => sinT_real _) (fun _ _ => hr.WG _) e).2

include hr ha in
/-- The reference's logits are the kernel's. -/
theorem logits_eq (b : Fin 8) (e : Fin 6) :
    (Cert.ReferenceIdeal.Value.res_main_v203 σ' : FVec Ideal Cert.ReferenceIdeal.S8x6 .f32) (ix2 b e) = L m ρ c b e := by
  rw [Cert.ReferenceIdeal.Val.v203_apply, ha.W, ha.B, ha.G, ha.E, ha.H, ha.FW, ha.FB, ha.WG, cosT_eq, sinT_eq]
  refine Eq.trans ?_ (logit_eq (fun s d => (X_eq m ρ c hr b s d).2) (fun _ _ => cosT_real _) (fun _ _ => sinT_real _)
    (fun _ _ => hr.WG _) e).1.symm
  simp only [(X_eq m ρ c hr b _ _).1]

include hr ha in
/-- The gates are equal, entry by entry. -/
theorem gates_at (b : Fin 8) (e : Fin 6) :
    Cert.KernelIdeal.Reg1.gates (Cert.KernelIdeal.Val.X m ρ c) Cert.KernelIdeal.HostV.cosT Cert.KernelIdeal.HostV.sinT
        (Cert.KernelIdeal.Val.WG (Cert.KernelIdeal.Gen.W0 m ρ c)) (ix2 b e)
      = Cert.ReferenceIdeal.Gat.gates (Cert.ReferenceIdeal.Value.res_main_v203 σ') (ix2 b e) := by
  obtain ⟨k₁, h₁⟩ := exists_first (L m ρ c b)
  obtain ⟨k₂, h₂⟩ := exists_first (drop (L m ρ c b) k₁)
  exact (Cert.KernelIdeal.Gat.gates_apply _ _ _ _ b (L m ρ c b) (fun _ => rfl) (L_real m ρ c hr b) k₁ k₂ h₁ h₂ e).trans
    (Cert.ReferenceIdeal.Gat.gates_apply _ b (L m ρ c b) (logits_eq m ρ c hr ha b) (L_real m ρ c hr b) k₁ k₂ h₁ h₂ e).symm

include hr ha in
/-- The kernel's gates are the reference's. -/
theorem gates_eq : (Cert.KernelIdeal.Gen.W5 m ρ c (Proc.devRef .tc Cert.KernelIdeal.main_v66_0) : FVec Ideal Cert.KernelIdeal.S8x6 .f32)
    = Cert.ReferenceIdeal.Gat.gates (Cert.ReferenceIdeal.Value.res_main_v203 σ') := by
  rw [Cert.KernelIdeal.Val.gates_eq]
  funext y
  obtain ⟨b, e, rfl⟩ : ∃ (b : Fin 8) (e : Fin 6), y = ix2 b e := ⟨y 0, y 1, by funext k; fin_cases k <;> rfl⟩
  exact gates_at m ρ c hr ha b e

include hr ha in
/-- The kernel's counts are the reference's. -/
theorem load_eq : (Cert.KernelIdeal.Gen.W5 m ρ c (Proc.devRef .tc Cert.KernelIdeal.main_v67) : IVec Cert.KernelIdeal.S6 32)
    = Cert.ReferenceIdeal.Gat.load (Cert.ReferenceIdeal.Gat.gates (Cert.ReferenceIdeal.Value.res_main_v203 σ')) := by
  funext y
  obtain ⟨e, rfl⟩ : ∃ (e : Fin 6), y = ix1 e := ⟨y 0, by funext k; fin_cases k; rfl⟩
  rw [Cert.KernelIdeal.Val.load_eq, Cert.ReferenceIdeal.Gat.load_apply]
  refine (Cert.KernelIdeal.Gat.load_apply _ _ _ _ e).trans ?_
  simp only [← gates_at m ρ c hr ha]
  rfl

end

end Cert.Equation

end
-- ==== Proof.Finite.lean ====
module

public import proofs.«01_k».proof.Pre_finite
public import proofs.«01_k».proof.Proof.Layer
public import Idealize.ShloMosaic.Lib.ReduceAll
public import Idealize.ShloMosaic.Lib.IdealHost
public import Idealize.ShloMosaic.Lib.Pointwise

/-! The precondition read back: every entry of the 24 float arguments is a real number. -/

@[expose] public section

set_option maxRecDepth 16384

noncomputable section

namespace Cert.Pre_finite

open Idealize.ShloMosaic Cert.Gate

/-- The side conditions of the precondition's operations. -/
theorem facts : Facts where
  bcast_S_S8x16x1x32x32x256 := by decide
  reducesTo_S8x16x1x32x32x256_S_d0_1_2_3_4_5 := by decide
  h_S_ := by decide
  bcast_S_S256x256x2x2 := by decide
  reducesTo_S256x256x2x2_S_d0_1_2_3 := by decide
  bcast_S_S256 := by decide
  reducesTo_S256_S_d0 := by decide
  bcast_S_S256x256 := by decide
  reducesTo_S256x256_S_d0_1 := by decide
  bcast_S_S8x6 := by decide
  reducesTo_S8x6_S_d0_1 := by decide

/-- The word the entries are compared with is the greatest extended real. -/
theorem bits_top : Ideal.ofBits .f32 0x7F800000#32 = ⊤ := by
  simp [Ideal.ofBits, Ideal.ieee]

/-- An entry whose absolute value is below the greatest extended real is a real number. -/
theorem real_of_lt {a : EReal} (h : max a (-a) < ⊤) : IsReal a := by
  induction a using EReal.rec with
  | bot => simp at h
  | top => simp at h
  | coe r => exact IsReal.coe r

/-- Whether every entry of an array is a real number. -/
def fin {s : Shape} {axes : List (Fin s.rank)} (hb : S_.BroadcastsInDim s (![] : Fin 0 → Fin s.rank))
    (hr : s.ReducesTo axes S_) [Facts] (x : FVec Ideal s .f32) : IVec S_ 1 :=
  Host.reduce IntOp.andi (cmpf .olt (Host.absf x) (broadcastInDim s ![] hb (constant S_ .f32 0x7F800000#32)))
    (constantI S_ 1 1#1) hr Facts.h_S_

theorem fin_real {s : Shape} {axes : List (Fin s.rank)} {hb : S_.BroadcastsInDim s (![] : Fin 0 → Fin s.rank)}
    {hr : s.ReducesTo axes S_} [Facts] {x : FVec Ideal s .f32} (h : fin hb hr x = fun _ => 1#1) (i : s.Idx) : IsReal (x i) := by
  have : Subsingleton S_.Idx := ⟨fun a b => funext fun k => k.elim0⟩
  have e := Host.reduce_andi_all _ _ hr Facts.h_S_ (Shape.Idx.first Facts.h_S_) (congrFun h _) i
  refine real_of_lt ?_
  have e' : BitVec.ofBool (decide (max (x i) (-(x i)) < Ideal.ofBits .f32 0x7F800000#32)) = 1#1 := e
  rw [bits_top] at e'
  by_contra hn
  rw [decide_eq_false hn] at e'
  exact absurd e' (by decide)

/-- Two flags whose conjunction is one are both one. -/
theorem and_split {x y : IVec S_ 1} (h : andi x y = fun _ => 1#1) : (x = fun _ => 1#1) ∧ (y = fun _ => 1#1) :=
  ⟨funext fun i => (IntOp.andi_eq_one.1 (congrFun h i)).1, funext fun i => (IntOp.andi_eq_one.1 (congrFun h i)).2⟩

set_option maxHeartbeats 1000000 in
/-- The precondition is the conjunction of the 24 flags. -/
theorem fn_eq [Facts] (x0 : FVec Ideal S8x16x1x32x32x256 .f32)
    (x1 : FVec Ideal S256x256x2x2 .f32)
    (x2 : FVec Ideal S256 .f32)
    (x3 : FVec Ideal S256 .f32)
    (x4 : FVec Ideal S256 .f32)
    (x5 : FVec Ideal S256x256x2x2 .f32)
    (x6 : FVec Ideal S256 .f32)
    (x7 : FVec Ideal S256 .f32)
    (x8 : FVec Ideal S256 .f32)
    (x9 : FVec Ideal S256x256x2x2 .f32)
    (x10 : FVec Ideal S256 .f32)
    (x11 : FVec Ideal S256 .f32)
    (x12 : FVec Ideal S256 .f32)
    (x13 : FVec Ideal S256x256x2x2 .f32)
    (x14 : FVec Ideal S256 .f32)
    (x15 : FVec Ideal S256 .f32)
    (x16 : FVec Ideal S256 .f32)
    (x17 : FVec Ideal S256x256x2x2 .f32)
    (x18 : FVec Ideal S256 .f32)
    (x19 : FVec Ideal S256 .f32)
    (x20 : FVec Ideal S256 .f32)
    (x21 : FVec Ideal S256x256 .f32)
    (x22 : FVec Ideal S256 .f32)
    (x23 : FVec Ideal S8x6 .f32) (x24 : IVec S_ 32) :
    fn (F := Ideal) x0 x1 x2 x3 x4 x5 x6 x7 x8 x9 x10 x11 x12 x13 x14 x15 x16 x17 x18 x19 x20 x21 x22 x23 x24 =
      (andi (andi (andi (andi (andi (andi (andi (andi (andi (andi (andi (andi (andi (andi (andi (andi (andi (andi (andi (andi (andi (andi (andi (fin Facts.bcast_S_S8x16x1x32x32x256 Facts.reducesTo_S8x16x1x32x32x256_S_d0_1_2_3_4_5 x0)
      (fin Facts.bcast_S_S256x256x2x2 Facts.reducesTo_S256x256x2x2_S_d0_1_2_3 x1))
      (fin Facts.bcast_S_S256 Facts.reducesTo_S256_S_d0 x2))
      (fin Facts.bcast_S_S256 Facts.reducesTo_S256_S_d0 x3))
      (fin Facts.bcast_S_S256 Facts.reducesTo_S256_S_d0 x4))
      (fin Facts.bcast_S_S256x256x2x2 Facts.reducesTo_S256x256x2x2_S_d0_1_2_3 x5))
      (fin Facts.bcast_S_S256 Facts.reducesTo_S256_S_d0 x6))
      (fin Facts.bcast_S_S256 Facts.reducesTo_S256_S_d0 x7))
      (fin Facts.bcast_S_S256 Facts.reducesTo_S256_S_d0 x8))
      (fin Facts.bcast_S_S256x256x2x2 Facts.reducesTo_S256x256x2x2_S_d0_1_2_3 x9))
      (fin Facts.bcast_S_S256 Facts.reducesTo_S256_S_d0 x10))
      (fin Facts.bcast_S_S256 Facts.reducesTo_S256_S_d0 x11))
      (fin Facts.bcast_S_S256 Facts.reducesTo_S256_S_d0 x12))
      (fin Facts.bcast_S_S256x256x2x2 Facts.reducesTo_S256x256x2x2_S_d0_1_2_3 x13))
      (fin Facts.bcast_S_S256 Facts.reducesTo_S256_S_d0 x14))
      (fin Facts.bcast_S_S256 Facts.reducesTo_S256_S_d0 x15))
      (fin Facts.bcast_S_S256 Facts.reducesTo_S256_S_d0 x16))
      (fin Facts.bcast_S_S256x256x2x2 Facts.reducesTo_S256x256x2x2_S_d0_1_2_3 x17))
      (fin Facts.bcast_S_S256 Facts.reducesTo_S256_S_d0 x18))
      (fin Facts.bcast_S_S256 Facts.reducesTo_S256_S_d0 x19))
      (fin Facts.bcast_S_S256 Facts.reducesTo_S256_S_d0 x20))
      (fin Facts.bcast_S_S256x256 Facts.reducesTo_S256x256_S_d0_1 x21))
      (fin Facts.bcast_S_S256 Facts.reducesTo_S256_S_d0 x22))
      (fin Facts.bcast_S_S8x6 Facts.reducesTo_S8x6_S_d0_1 x23)) := rfl

/-- Under the precondition every entry of every float argument is a real number. -/
theorem real_args [Facts] (x0 : FVec Ideal S8x16x1x32x32x256 .f32)
    (x1 : FVec Ideal S256x256x2x2 .f32)
    (x2 : FVec Ideal S256 .f32)
    (x3 : FVec Ideal S256 .f32)
    (x4 : FVec Ideal S256 .f32)
    (x5 : FVec Ideal S256x256x2x2 .f32)
    (x6 : FVec Ideal S256 .f32)
    (x7 : FVec Ideal S256 .f32)
    (x8 : FVec Ideal S256 .f32)
    (x9 : FVec Ideal S256x256x2x2 .f32)
    (x10 : FVec Ideal S256 .f32)
    (x11 : FVec Ideal S256 .f32)
    (x12 : FVec Ideal S256 .f32)
    (x13 : FVec Ideal S256x256x2x2 .f32)
    (x14 : FVec Ideal S256 .f32)
    (x15 : FVec Ideal S256 .f32)
    (x16 : FVec Ideal S256 .f32)
    (x17 : FVec Ideal S256x256x2x2 .f32)
    (x18 : FVec Ideal S256 .f32)
    (x19 : FVec Ideal S256 .f32)
    (x20 : FVec Ideal S256 .f32)
    (x21 : FVec Ideal S256x256 .f32)
    (x22 : FVec Ideal S256 .f32)
    (x23 : FVec Ideal S8x6 .f32) (x24 : IVec S_ 32)
    (h : fn (F := Ideal) x0 x1 x2 x3 x4 x5 x6 x7 x8 x9 x10 x11 x12 x13 x14 x15 x16 x17 x18 x19 x20 x21 x22 x23 x24 = fun _ => 1#1) :
    (∀ i, IsReal (x0 i))
      ∧ (∀ i, IsReal (x1 i))
      ∧ (∀ i, IsReal (x2 i))
      ∧ (∀ i, IsReal (x3 i))
      ∧ (∀ i, IsReal (x4 i))
      ∧ (∀ i, IsReal (x5 i))
      ∧ (∀ i, IsReal (x6 i))
      ∧ (∀ i, IsReal (x7 i))
      ∧ (∀ i, IsReal (x8 i))
      ∧ (∀ i, IsReal (x9 i))
      ∧ (∀ i, IsReal (x10 i))
      ∧ (∀ i, IsReal (x11 i))
      ∧ (∀ i, IsReal (x12 i))
      ∧ (∀ i, IsReal (x13 i))
      ∧ (∀ i, IsReal (x14 i))
      ∧ (∀ i, IsReal (x15 i))
      ∧ (∀ i, IsReal (x16 i))
      ∧ (∀ i, IsReal (x17 i))
      ∧ (∀ i, IsReal (x18 i))
      ∧ (∀ i, IsReal (x19 i))
      ∧ (∀ i, IsReal (x20 i))
      ∧ (∀ i, IsReal (x21 i))
      ∧ (∀ i, IsReal (x22 i))
      ∧ (∀ i, IsReal (x23 i)) := by
  rw [fn_eq] at h
  obtain ⟨h, h23⟩ := and_split h
  obtain ⟨h, h22⟩ := and_split h
  obtain ⟨h, h21⟩ := and_split h
  obtain ⟨h, h20⟩ := and_split h
  obtain ⟨h, h19⟩ := and_split h
  obtain ⟨h, h18⟩ := and_split h
  obtain ⟨h, h17⟩ := and_split h
  obtain ⟨h, h16⟩ := and_split h
  obtain ⟨h, h15⟩ := and_split h
  obtain ⟨h, h14⟩ := and_split h
  obtain ⟨h, h13⟩ := and_split h
  obtain ⟨h, h12⟩ := and_split h
  obtain ⟨h, h11⟩ := and_split h
  obtain ⟨h, h10⟩ := and_split h
  obtain ⟨h, h9⟩ := and_split h
  obtain ⟨h, h8⟩ := and_split h
  obtain ⟨h, h7⟩ := and_split h
  obtain ⟨h, h6⟩ := and_split h
  obtain ⟨h, h5⟩ := and_split h
  obtain ⟨h, h4⟩ := and_split h
  obtain ⟨h, h3⟩ := and_split h
  obtain ⟨h, h2⟩ := and_split h
  obtain ⟨h, h1⟩ := and_split h
  exact ⟨fin_real h, fin_real h1, fin_real h2, fin_real h3, fin_real h4, fin_real h5, fin_real h6, fin_real h7, fin_real h8, fin_real h9, fin_real h10, fin_real h11, fin_real h12, fin_real h13, fin_real h14, fin_real h15, fin_real h16, fin_real h17, fin_real h18, fin_real h19, fin_real h20, fin_real h21, fin_real h22, fin_real h23⟩

end Cert.Pre_finite

end
-- ==== Proof.Hypotheses.lean ====
module

public import proofs.«01_k».proof.Defs
public import proofs.«01_k».proof.Proof.Equation
public import proofs.«01_k».proof.Proof.Finite

/-! What the claim's hypotheses give: the arguments are real numbers, and the two programs' arguments are equal. -/

@[expose] public section

set_option maxRecDepth 16384

noncomputable section

namespace Cert.Equation

open Idealize.ShloMosaic Cert.Gate

variable (m : (ℓ : Loc Cert.KernelIdeal.nD Cert.KernelIdeal.τ Cert.KernelIdeal.sig) → Buf (Elt Ideal) ℓ)
  (ρ : Dev Cert.KernelIdeal.nD → PrngReg)
  (m' : (ℓ : Loc Cert.ReferenceIdeal.nD Cert.ReferenceIdeal.τ Cert.ReferenceIdeal.sig) → Buf (Elt Ideal) ℓ)

/-- Under the precondition the arguments are real. -/
theorem real_of_pre [Cert.Pre_finite.Facts] (h : Cert.Pre_KernelIdeal_finite m) (c : Dev Cert.KernelIdeal.nD) :
    RealArgs (Cert.KernelIdeal.Gen.W0 m ρ c) := by
  obtain ⟨h0, h1, h2, h3, h4, h5, h6, h7, h8, h9, h10, h11, h12, h13, h14, h15, h16, h17, h18, h19, h20, h21, h22, h23⟩ := Cert.Pre_finite.real_args _ _ _ _ _ _ _ _ _ _ _ _ _ _ _ _ _ _ _ _ _ _ _ _ _ (h c)
  refine ⟨Cert.ReferenceIdeal.Val.image_real h0, fun l o c p q => ?_, fun l o => ?_, fun l o => ?_, fun l o => ?_,
    fun f k => h21 _, fun f => h22 _, h23⟩
  · fin_cases l
    · exact h1 _
    · exact h5 _
    · exact h9 _
    · exact h13 _
    · exact h17 _
  · fin_cases l
    · exact h2 _
    · exact h6 _
    · exact h10 _
    · exact h14 _
    · exact h18 _
  · fin_cases l
    · exact h3 _
    · exact h7 _
    · exact h11 _
    · exact h15 _
    · exact h19 _
  · fin_cases l
    · exact h4 _
    · exact h8 _
    · exact h12 _
    · exact h16 _
    · exact h20 _

/-- The reference's launch contents agree with the kernel's. -/
theorem agree_of (c : Dev Cert.KernelIdeal.nD)
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3)
      = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4)
      = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5)
      = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6)
      = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7)
      = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8)
      = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9)
      = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10)
      = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11)
      = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12)
      = m ((c.tc : Thread Cert.KernelIdeal.nD Cert.KernelIdeal.τ).loc Cert.KernelIdeal.main_arg12))
    (h13 : m' ((c.tc : Thread Cert.ReferenceIdeal.nD Cert.ReferenceIdeal.τ).loc Cert.ReferenceIdeal.main_arg13)
      = m ((c.tc : Thread Cert.KernelIdeal.nD Cert.KernelIdeal.τ).loc Cert.KernelIdeal.main_arg13))
    (h14 : m' ((c.tc : Thread Cert.ReferenceIdeal.nD Cert.ReferenceIdeal.τ).loc Cert.ReferenceIdeal.main_arg14)
      = m ((c.tc : Thread Cert.KernelIdeal.nD Cert.KernelIdeal.τ).loc Cert.KernelIdeal.main_arg14))
    (h15 : m' ((c.tc : Thread Cert.ReferenceIdeal.nD Cert.ReferenceIdeal.τ).loc Cert.ReferenceIdeal.main_arg15)
      = m ((c.tc : Thread Cert.KernelIdeal.nD Cert.KernelIdeal.τ).loc Cert.KernelIdeal.main_arg15))
    (h16 : m' ((c.tc : Thread Cert.ReferenceIdeal.nD Cert.ReferenceIdeal.τ).loc Cert.ReferenceIdeal.main_arg16)
      = m ((c.tc : Thread Cert.KernelIdeal.nD Cert.KernelIdeal.τ).loc Cert.KernelIdeal.main_arg16))
    (h17 : m' ((c.tc : Thread Cert.ReferenceIdeal.nD Cert.ReferenceIdeal.τ).loc Cert.ReferenceIdeal.main_arg17)
      = m ((c.tc : Thread Cert.KernelIdeal.nD Cert.KernelIdeal.τ).loc Cert.KernelIdeal.main_arg17))
    (h18 : m' ((c.tc : Thread Cert.ReferenceIdeal.nD Cert.ReferenceIdeal.τ).loc Cert.ReferenceIdeal.main_arg18)
      = m ((c.tc : Thread Cert.KernelIdeal.nD Cert.KernelIdeal.τ).loc Cert.KernelIdeal.main_arg18))
    (h19 : m' ((c.tc : Thread Cert.ReferenceIdeal.nD Cert.ReferenceIdeal.τ).loc Cert.ReferenceIdeal.main_arg19)
      = m ((c.tc : Thread Cert.KernelIdeal.nD Cert.KernelIdeal.τ).loc Cert.KernelIdeal.main_arg19))
    (h20 : m' ((c.tc : Thread Cert.ReferenceIdeal.nD Cert.ReferenceIdeal.τ).loc Cert.ReferenceIdeal.main_arg20)
      = m ((c.tc : Thread Cert.KernelIdeal.nD Cert.KernelIdeal.τ).loc Cert.KernelIdeal.main_arg20))
    (h21 : m' ((c.tc : Thread Cert.ReferenceIdeal.nD Cert.ReferenceIdeal.τ).loc Cert.ReferenceIdeal.main_arg21)
      = m ((c.tc : Thread Cert.KernelIdeal.nD Cert.KernelIdeal.τ).loc Cert.KernelIdeal.main_arg21))
    (h22 : m' ((c.tc : Thread Cert.ReferenceIdeal.nD Cert.ReferenceIdeal.τ).loc Cert.ReferenceIdeal.main_arg22)
      = m ((c.tc : Thread Cert.KernelIdeal.nD Cert.KernelIdeal.τ).loc Cert.KernelIdeal.main_arg22))
    (h23 : m' ((c.tc : Thread Cert.ReferenceIdeal.nD Cert.ReferenceIdeal.τ).loc Cert.ReferenceIdeal.main_arg23)
      = m ((c.tc : Thread Cert.KernelIdeal.nD Cert.KernelIdeal.τ).loc Cert.KernelIdeal.main_arg23)) :
    Agree (Cert.KernelIdeal.Gen.W0 m ρ c) (StableHlo.launchContents m' c) := by
  refine ⟨congrArg Cert.ReferenceIdeal.Val.image h0, funext fun l => ?_, funext fun l => ?_, funext fun l => ?_, funext fun l => ?_,
    funext fun f => funext fun k => congrFun h21 (ix2 f k), congrArg Cert.ReferenceIdeal.Lay.vec h22, h23⟩
  · fin_cases l
    · exact congrArg Cert.ReferenceIdeal.Lay.wt h1
    · exact congrArg Cert.ReferenceIdeal.Lay.wt h5
    · exact congrArg Cert.ReferenceIdeal.Lay.wt h9
    · exact congrArg Cert.ReferenceIdeal.Lay.wt h13
    · exact congrArg Cert.ReferenceIdeal.Lay.wt h17
  · fin_cases l
    · exact congrArg Cert.ReferenceIdeal.Lay.vec h2
    · exact congrArg Cert.ReferenceIdeal.Lay.vec h6
    · exact congrArg Cert.ReferenceIdeal.Lay.vec h10
    · exact congrArg Cert.ReferenceIdeal.Lay.vec h14
    · exact congrArg Cert.ReferenceIdeal.Lay.vec h18
  · fin_cases l
    · exact congrArg Cert.ReferenceIdeal.Lay.vec h3
    · exact congrArg Cert.ReferenceIdeal.Lay.vec h7
    · exact congrArg Cert.ReferenceIdeal.Lay.vec h11
    · exact congrArg Cert.ReferenceIdeal.Lay.vec h15
    · exact congrArg Cert.ReferenceIdeal.Lay.vec h19
  · fin_cases l
    · exact congrArg Cert.ReferenceIdeal.Lay.vec h4
    · exact congrArg Cert.ReferenceIdeal.Lay.vec h8
    · exact congrArg Cert.ReferenceIdeal.Lay.vec h12
    · exact congrArg Cert.ReferenceIdeal.Lay.vec h16
    · exact congrArg Cert.ReferenceIdeal.Lay.vec h20

end Cert.Equation

end
-- ==== Proof.lean ====
module

public import proofs.«01_k».proof.Defs
public import proofs.«01_k».proof.Proof.Gen.Kernel.Frame
public import proofs.«01_k».proof.Proof.RunMain
public import proofs.«01_k».proof.Proof.Hypotheses
public import Idealize.ShloMosaic.Lib.Claim

@[expose] public section

set_option maxRecDepth 16384

noncomputable section

namespace Cert.Proof

open Idealize.ShloMosaic Idealize.SL.Sem

/-- The reference's frame. -/
theorem frame_reference : Cert.quiescent_ReferenceIdeal (hReferenceIdeal := Cert.ReferenceIdeal.Gen.facts) := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- On real arguments the kernel ends with the reference's results. -/
theorem algebraic [Cert.Pre_finite.Facts] : Cert.algebraic_KernelIdeal_ReferenceIdeal_pre_finite
    (hKernelIdeal := Cert.KernelIdeal.Gen.facts) (hReferenceIdeal := Cert.ReferenceIdeal.Gen.facts) := by
  intro m g m' g' hpre hagree
  refine ⟨fun c => Cert.KernelIdeal.Gen.W5 m g c (Proc.devRef .tc Cert.KernelIdeal.main_v66_0),
    fun c => Cert.KernelIdeal.Gen.W5 m g c (Proc.devRef .tc Cert.KernelIdeal.main_v67), Cert.KernelIdeal.Run.run_main m g,
    (θ_run Cert.ReferenceIdeal.defs _ _).mono (fun r h c => ?_) (Cert.ReferenceIdeal.Value.run (F := Ideal) m' g')⟩
  have hr := Cert.Equation.real_of_pre m g hpre c
  obtain ⟨h0, h1, h2, h3, h4, h5, h6, h7, h8, h9, h10, h11, h12, h13, h14, h15, h16, h17, h18, h19, h20, h21, h22, h23, _⟩ := hagree c
  have ha := Cert.Equation.agree_of m g m' c h0 h1 h2 h3 h4 h5 h6 h7 h8 h9 h10 h11 h12 h13 h14 h15 h16 h17 h18 h19 h20 h21 h22 h23
  exact ⟨(h c).1.trans (Cert.Equation.gates_eq m g c hr ha).symm, (h c).2.1.trans (Cert.Equation.load_eq m g c hr ha).symm, (h c).2.2⟩

/-- The claim: the frames, and that the kernel and the reference end with equal results on real arguments. -/
theorem claim : Cert.Claim :=
  ⟨Cert.Kernel.Gen.facts, Cert.KernelIdeal.Gen.facts, Cert.ReferenceIdeal.Gen.facts, Cert.Pre_finite.facts,
    fun m ρ _ => Cert.Kernel.Gen.frame m ρ, fun m ρ _ => Cert.KernelIdeal.Gen.frame m ρ, fun m ρ _ => Cert.KernelIdeal.Gen.frame m ρ,
    frame_reference, fun m ρ _ => frame_reference m ρ trivial, trivial, @algebraic Cert.Pre_finite.facts⟩

end Cert.Proof

end
